-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "cap" .f32 0x423C0000#32 ⊤
  ∧ IdealRules.named_const.Statement Cert.KernelIdeal.κ "neg_half_log2e" .f32 0xBF38AA3B#32 (((-(1 / 2)) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x512x512 : Shape := ⟨4, ![16, 1, 512, 512]⟩
abbrev S16x2048x128 : Shape := ⟨3, ![16, 2048, 128]⟩
abbrev S16x8x128 : Shape := ⟨3, ![16, 8, 128]⟩
abbrev S2x2048x128 : Shape := ⟨3, ![2, 2048, 128]⟩
abbrev S64x128 : Shape := ⟨2, ![64, 128]⟩
abbrev S2048x128 : Shape := ⟨2, ![2048, 128]⟩
abbrev S2 : Shape := ⟨1, ![2]⟩
abbrev S1 : Shape := ⟨1, ![1]⟩
abbrev S_ : Shape := ⟨0, ![]⟩
abbrev S1x2048x128 : Shape := ⟨3, ![1, 2048, 128]⟩
abbrev S8x128 : Shape := ⟨2, ![8, 128]⟩
abbrev S8x8x128 : Shape := ⟨3, ![8, 8, 128]⟩
abbrev S1x8x128 : Shape := ⟨3, ![1, 8, 128]⟩
abbrev S1x1x1 : Shape := ⟨3, ![1, 1, 1]⟩
abbrev S128 : Shape := ⟨1, ![128]⟩
abbrev S1x128 : Shape := ⟨2, ![1, 128]⟩
abbrev S64 : Shape := ⟨1, ![64]⟩
abbrev S64x1 : Shape := ⟨2, ![64, 1]⟩
abbrev S1x64x1 : Shape := ⟨3, ![1, 64, 1]⟩
abbrev S16x1x1 : Shape := ⟨3, ![16, 1, 1]⟩
abbrev S16 : Shape := ⟨1, ![16]⟩

abbrev nBuf : Space → Nat
  | .hbm => 13
  | .vmem => 7
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S16x2048x128, .f32⟩
  | .hbm, ⟨3, _⟩ => ⟨S16x2048x128, .f32⟩
  | .hbm, ⟨4, _⟩ => ⟨S16x8x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S16x8x128, .f32⟩
  | .local _ .vmem, ⟨1, _⟩ => ⟨S2x2048x128, .f32⟩
  | .local _ .vmem, ⟨2, _⟩ => ⟨S2x2048x128, .f32⟩
  | .local _ .vmem, ⟨3, _⟩ => ⟨S64x128, .f32⟩
  | .local _ .vmem, ⟨4, _⟩ => ⟨S64x128, .f32⟩
  | .local _ .vmem, ⟨5, _⟩ => ⟨S2048x128, .f32⟩
  | .local _ .vmem, ⟨6, _⟩ => ⟨S2048x128, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_13 : BitVec 32 := 0#32
  let c16_i32 : BitVec 32 := 16#32
  let v12 : BitVec 32 := Scalar.addi c0_i32_13 c16_i32
  let c1_i32 : BitVec 32 := 1#32
  ⟨c0_i32_13, v12, c1_i32⟩
def k0_cond1 (k0_t1 : Fin k0_t1_loop.trips) : BitVec 1 :=
  let c0_i32_13 : BitVec 32 := 0#32
  let c1_i32 : BitVec 32 := 1#32
  let arg11 : BitVec 32 := Scf.iv c0_i32_13 c1_i32 k0_t1
  let c1_i32_17 : BitVec 32 := 1#32
  let v16 : BitVec 32 := Scalar.addi arg11 c1_i32_17
  let c16_i32_18 : BitVec 32 := 16#32
  let v17 : BitVec 1 := Scalar.cmpi .slt v16 c16_i32_18
  let v18 : BitVec 32 := Scalar.extui v17
  let c0_i32_19 : BitVec 32 := 0#32
  let v19 : BitVec 1 := Scalar.cmpi .ne v18 c0_i32_19
  v19

def k0_off1 (k0_t1 : Fin k0_t1_loop.trips) : Fin 1 → Nat :=
  let c0_i32_13 : BitVec 32 := 0#32
  let c1_i32 : BitVec 32 := 1#32
  let arg11 : BitVec 32 := Scf.iv c0_i32_13 c1_i32 k0_t1
  let c1_i32_15 : BitVec 32 := 1#32
  let v14 : BitVec 32 := Scalar.addi arg11 c1_i32_15
  let c2_i32_16 : BitVec 32 := 2#32
  let v15 : BitVec 32 := Scalar.remsi v14 c2_i32_16
  ![v15.toNat]
def k0_off2 (k0_t1 : Fin k0_t1_loop.trips) : Fin 3 → Nat :=
  let c0_i32_13 : BitVec 32 := 0#32
  let c1_i32 : BitVec 32 := 1#32
  let arg11 : BitVec 32 := Scf.iv c0_i32_13 c1_i32 k0_t1
  let c1_i32_15 : BitVec 32 := 1#32
  let v14 : BitVec 32 := Scalar.addi arg11 c1_i32_15
  let c2_i32_16 : BitVec 32 := 2#32
  let v15 : BitVec 32 := Scalar.remsi v14 c2_i32_16
  let c0_i32_582 : BitVec 32 := 0#32
  let c0_i32_583 : BitVec 32 := 0#32
  ![v15.toNat, 0, 0]
def k0_off3 (k0_t1 : Fin k0_t1_loop.trips) : Fin 3 → Nat :=
  let c0_i32_13 : BitVec 32 := 0#32
  let c1_i32 : BitVec 32 := 1#32
  let arg11 : BitVec 32 := Scf.iv c0_i32_13 c1_i32 k0_t1
  let c1_i32_581 : BitVec 32 := 1#32
  let v1104 : BitVec 32 := Scalar.addi arg11 c1_i32_581
  let c0_i32_584 : BitVec 32 := 0#32
  let c0_i32_585 : BitVec 32 := 0#32
  ![v1104.toNat, 0, 0]
def k0_off4 (k0_t1 : Fin k0_t1_loop.trips) : Fin 1 → Nat :=
  let c0_i32_13 : BitVec 32 := 0#32
  let c1_i32 : BitVec 32 := 1#32
  let arg11 : BitVec 32 := Scf.iv c0_i32_13 c1_i32 k0_t1
  let c2_i32 : BitVec 32 := 2#32
  let v13 : BitVec 32 := Scalar.remsi arg11 c2_i32
  ![v13.toNat]
def k0_off5 (k0_t1 : Fin k0_t1_loop.trips) : Fin 3 → Nat :=
  let c0_i32_13 : BitVec 32 := 0#32
  let c1_i32 : BitVec 32 := 1#32
  let arg11 : BitVec 32 := Scf.iv c0_i32_13 c1_i32 k0_t1
  let c2_i32 : BitVec 32 := 2#32
  let v13 : BitVec 32 := Scalar.remsi arg11 c2_i32
  let c0_i32_21 : BitVec 32 := 0#32
  let c0_i32_22 : BitVec 32 := 0#32
  ![v13.toNat, 0, 0]
@[reducible] def k0_t2_loop : Scf.Loop 32 :=
  let c0_i32_31 : BitVec 32 := 0#32
  let c32_i32 : BitVec 32 := 32#32
  let v34 : BitVec 32 := Scalar.addi c0_i32_31 c32_i32
  let c1_i32_32 : BitVec 32 := 1#32
  ⟨c0_i32_31, v34, c1_i32_32⟩
def k0_off6 (k0_t1 : Fin k0_t1_loop.trips) : Fin 3 → Nat :=
  let c0_i32_13 : BitVec 32 := 0#32
  let c1_i32 : BitVec 32 := 1#32
  let arg11 : BitVec 32 := Scf.iv c0_i32_13 c1_i32 k0_t1
  let c2_i32 : BitVec 32 := 2#32
  let v13 : BitVec 32 := Scalar.remsi arg11 c2_i32
  let c0_i32_581 : BitVec 32 := 0#32
  let c0_i32_582 : BitVec 32 := 0#32
  ![v13.toNat, 0, 0]
def k0_off7 (k0_t2 : Fin k0_t2_loop.trips) : Fin 2 → Nat :=
  let c0_i32_31 : BitVec 32 := 0#32
  let c1_i32_32 : BitVec 32 := 1#32
  let arg12 : BitVec 32 := Scf.iv c0_i32_31 c1_i32_32 k0_t2
  let c64_i32 : BitVec 32 := 64#32
  let v1104 : BitVec 32 := Scalar.muli arg12 c64_i32
  let v1107 : Index := Scalar.indexCast v1104
  let c0_583 : Index := 0#32
  ![v1107.toNat, 0]
def k0_off8 (k0_t1 : Fin k0_t1_loop.trips) : Fin 3 → Nat :=
  let c0_i32_13 : BitVec 32 := 0#32
  let c1_i32 : BitVec 32 := 1#32
  let arg11 : BitVec 32 := Scf.iv c0_i32_13 c1_i32 k0_t1
  let c2_i32 : BitVec 32 := 2#32
  let v13 : BitVec 32 := Scalar.remsi arg11 c2_i32
  let v47 : Index := Scalar.indexCast v13
  let c0 : Index := 0#32
  let c0_38 : Index := 0#32
  ![v47.toNat, 0, 0]
@[reducible] def k0_t3_loop : Scf.Loop 32 :=
  let c0_i32_65 : BitVec 32 := 0#32
  let c32_i32_66 : BitVec 32 := 32#32
  let v83 : BitVec 32 := Scalar.addi c0_i32_65 c32_i32_66
  let c1_i32_67 : BitVec 32 := 1#32
  ⟨c0_i32_65, v83, c1_i32_67⟩
def k0_off9 (k0_t3 : Fin k0_t3_loop.trips) : Fin 2 → Nat :=
  let c0_i32_65 : BitVec 32 := 0#32
  let c1_i32_67 : BitVec 32 := 1#32
  let arg12 : BitVec 32 := Scf.iv c0_i32_65 c1_i32_67 k0_t3
  let c64_i32 : BitVec 32 := 64#32
  let v1104 : BitVec 32 := Scalar.muli arg12 c64_i32
  let v1105 : Index := Scalar.indexCast v1104
  let c0_581 : Index := 0#32
  ![v1105.toNat, 0]
@[reducible] def k0_t4_loop : Scf.Loop 32 :=
  let c0_i32_73 : BitVec 32 := 0#32
  let c32_i32_74 : BitVec 32 := 32#32
  let v85 : BitVec 32 := Scalar.addi c0_i32_73 c32_i32_74
  let c1_i32_75 : BitVec 32 := 1#32
  ⟨c0_i32_73, v85, c1_i32_75⟩
def k0_off10 (k0_t4 : Fin k0_t4_loop.trips) : Fin 2 → Nat :=
  let c0_i32_73 : BitVec 32 := 0#32
  let c1_i32_75 : BitVec 32 := 1#32
  let arg12 : BitVec 32 := Scf.iv c0_i32_73 c1_i32_75 k0_t4
  let c64_i32 : BitVec 32 := 64#32
  let v1104 : BitVec 32 := Scalar.muli arg12 c64_i32
  let v1105 : Index := Scalar.indexCast v1104
  let c0_581 : Index := 0#32
  ![v1105.toNat, 0]
@[reducible] def k0_t5_loop : Scf.Loop 32 :=
  let c0_i32_130 : BitVec 32 := 0#32
  let c32_i32_131 : BitVec 32 := 32#32
  let v207 : BitVec 32 := Scalar.addi c0_i32_130 c32_i32_131
  let c1_i32_132 : BitVec 32 := 1#32
  ⟨c0_i32_130, v207, c1_i32_132⟩
def k0_off11 (k0_t5 : Fin k0_t5_loop.trips) : Fin 2 → Nat :=
  let c0_i32_130 : BitVec 32 := 0#32
  let c1_i32_132 : BitVec 32 := 1#32
  let arg12 : BitVec 32 := Scf.iv c0_i32_130 c1_i32_132 k0_t5
  let c64_i32 : BitVec 32 := 64#32
  let v1104 : BitVec 32 := Scalar.muli arg12 c64_i32
  let v1105 : Index := Scalar.indexCast v1104
  let c0_581 : Index := 0#32
  ![v1105.toNat, 0]
@[reducible] def k0_t6_loop : Scf.Loop 32 :=
  let c0_i32_138 : BitVec 32 := 0#32
  let c32_i32_139 : BitVec 32 := 32#32
  let v209 : BitVec 32 := Scalar.addi c0_i32_138 c32_i32_139
  let c1_i32_140 : BitVec 32 := 1#32
  ⟨c0_i32_138, v209, c1_i32_140⟩
def k0_off12 (k0_t6 : Fin k0_t6_loop.trips) : Fin 2 → Nat :=
  let c0_i32_138 : BitVec 32 := 0#32
  let c1_i32_140 : BitVec 32 := 1#32
  let arg12 : BitVec 32 := Scf.iv c0_i32_138 c1_i32_140 k0_t6
  let c64_i32 : BitVec 32 := 64#32
  let v1104 : BitVec 32 := Scalar.muli arg12 c64_i32
  let v1105 : Index := Scalar.indexCast v1104
  let c0_581 : Index := 0#32
  ![v1105.toNat, 0]
@[reducible] def k0_t7_loop : Scf.Loop 32 :=
  let c0_i32_194 : BitVec 32 := 0#32
  let c32_i32_195 : BitVec 32 := 32#32
  let v331 : BitVec 32 := Scalar.addi c0_i32_194 c32_i32_195
  let c1_i32_196 : BitVec 32 := 1#32
  ⟨c0_i32_194, v331, c1_i32_196⟩
def k0_off13 (k0_t7 : Fin k0_t7_loop.trips) : Fin 2 → Nat :=
  let c0_i32_194 : BitVec 32 := 0#32
  let c1_i32_196 : BitVec 32 := 1#32
  let arg12 : BitVec 32 := Scf.iv c0_i32_194 c1_i32_196 k0_t7
  let c64_i32 : BitVec 32 := 64#32
  let v1104 : BitVec 32 := Scalar.muli arg12 c64_i32
  let v1105 : Index := Scalar.indexCast v1104
  let c0_581 : Index := 0#32
  ![v1105.toNat, 0]
@[reducible] def k0_t8_loop : Scf.Loop 32 :=
  let c0_i32_202 : BitVec 32 := 0#32
  let c32_i32_203 : BitVec 32 := 32#32
  let v333 : BitVec 32 := Scalar.addi c0_i32_202 c32_i32_203
  let c1_i32_204 : BitVec 32 := 1#32
  ⟨c0_i32_202, v333, c1_i32_204⟩
def k0_off14 (k0_t8 : Fin k0_t8_loop.trips) : Fin 2 → Nat :=
  let c0_i32_202 : BitVec 32 := 0#32
  let c1_i32_204 : BitVec 32 := 1#32
  let arg12 : BitVec 32 := Scf.iv c0_i32_202 c1_i32_204 k0_t8
  let c64_i32 : BitVec 32 := 64#32
  let v1104 : BitVec 32 := Scalar.muli arg12 c64_i32
  let v1105 : Index := Scalar.indexCast v1104
  let c0_581 : Index := 0#32
  ![v1105.toNat, 0]
@[reducible] def k0_t9_loop : Scf.Loop 32 :=
  let c0_i32_258 : BitVec 32 := 0#32
  let c32_i32_259 : BitVec 32 := 32#32
  let v455 : BitVec 32 := Scalar.addi c0_i32_258 c32_i32_259
  let c1_i32_260 : BitVec 32 := 1#32
  ⟨c0_i32_258, v455, c1_i32_260⟩
def k0_off15 (k0_t9 : Fin k0_t9_loop.trips) : Fin 2 → Nat :=
  let c0_i32_258 : BitVec 32 := 0#32
  let c1_i32_260 : BitVec 32 := 1#32
  let arg12 : BitVec 32 := Scf.iv c0_i32_258 c1_i32_260 k0_t9
  let c64_i32 : BitVec 32 := 64#32
  let v1104 : BitVec 32 := Scalar.muli arg12 c64_i32
  let v1105 : Index := Scalar.indexCast v1104
  let c0_581 : Index := 0#32
  ![v1105.toNat, 0]
@[reducible] def k0_t10_loop : Scf.Loop 32 :=
  let c0_i32_266 : BitVec 32 := 0#32
  let c32_i32_267 : BitVec 32 := 32#32
  let v457 : BitVec 32 := Scalar.addi c0_i32_266 c32_i32_267
  let c1_i32_268 : BitVec 32 := 1#32
  ⟨c0_i32_266, v457, c1_i32_268⟩
def k0_off16 (k0_t10 : Fin k0_t10_loop.trips) : Fin 2 → Nat :=
  let c0_i32_266 : BitVec 32 := 0#32
  let c1_i32_268 : BitVec 32 := 1#32
  let arg12 : BitVec 32 := Scf.iv c0_i32_266 c1_i32_268 k0_t10
  let c64_i32 : BitVec 32 := 64#32
  let v1104 : BitVec 32 := Scalar.muli arg12 c64_i32
  let v1105 : Index := Scalar.indexCast v1104
  let c0_581 : Index := 0#32
  ![v1105.toNat, 0]
@[reducible] def k0_t11_loop : Scf.Loop 32 :=
  let c0_i32_322 : BitVec 32 := 0#32
  let c32_i32_323 : BitVec 32 := 32#32
  let v579 : BitVec 32 := Scalar.addi c0_i32_322 c32_i32_323
  let c1_i32_324 : BitVec 32 := 1#32
  ⟨c0_i32_322, v579, c1_i32_324⟩
def k0_off17 (k0_t11 : Fin k0_t11_loop.trips) : Fin 2 → Nat :=
  let c0_i32_322 : BitVec 32 := 0#32
  let c1_i32_324 : BitVec 32 := 1#32
  let arg12 : BitVec 32 := Scf.iv c0_i32_322 c1_i32_324 k0_t11
  let c64_i32 : BitVec 32 := 64#32
  let v1104 : BitVec 32 := Scalar.muli arg12 c64_i32
  let v1105 : Index := Scalar.indexCast v1104
  let c0_581 : Index := 0#32
  ![v1105.toNat, 0]
@[reducible] def k0_t12_loop : Scf.Loop 32 :=
  let c0_i32_330 : BitVec 32 := 0#32
  let c32_i32_331 : BitVec 32 := 32#32
  let v581 : BitVec 32 := Scalar.addi c0_i32_330 c32_i32_331
  let c1_i32_332 : BitVec 32 := 1#32
  ⟨c0_i32_330, v581, c1_i32_332⟩
def k0_off18 (k0_t12 : Fin k0_t12_loop.trips) : Fin 2 → Nat :=
  let c0_i32_330 : BitVec 32 := 0#32
  let c1_i32_332 : BitVec 32 := 1#32
  let arg12 : BitVec 32 := Scf.iv c0_i32_330 c1_i32_332 k0_t12
  let c64_i32 : BitVec 32 := 64#32
  let v1104 : BitVec 32 := Scalar.muli arg12 c64_i32
  let v1105 : Index := Scalar.indexCast v1104
  let c0_581 : Index := 0#32
  ![v1105.toNat, 0]
@[reducible] def k0_t13_loop : Scf.Loop 32 :=
  let c0_i32_386 : BitVec 32 := 0#32
  let c32_i32_387 : BitVec 32 := 32#32
  let v703 : BitVec 32 := Scalar.addi c0_i32_386 c32_i32_387
  let c1_i32_388 : BitVec 32 := 1#32
  ⟨c0_i32_386, v703, c1_i32_388⟩
def k0_off19 (k0_t13 : Fin k0_t13_loop.trips) : Fin 2 → Nat :=
  let c0_i32_386 : BitVec 32 := 0#32
  let c1_i32_388 : BitVec 32 := 1#32
  let arg12 : BitVec 32 := Scf.iv c0_i32_386 c1_i32_388 k0_t13
  let c64_i32 : BitVec 32 := 64#32
  let v1104 : BitVec 32 := Scalar.muli arg12 c64_i32
  let v1105 : Index := Scalar.indexCast v1104
  let c0_581 : Index := 0#32
  ![v1105.toNat, 0]
@[reducible] def k0_t14_loop : Scf.Loop 32 :=
  let c0_i32_394 : BitVec 32 := 0#32
  let c32_i32_395 : BitVec 32 := 32#32
  let v705 : BitVec 32 := Scalar.addi c0_i32_394 c32_i32_395
  let c1_i32_396 : BitVec 32 := 1#32
  ⟨c0_i32_394, v705, c1_i32_396⟩
def k0_off20 (k0_t14 : Fin k0_t14_loop.trips) : Fin 2 → Nat :=
  let c0_i32_394 : BitVec 32 := 0#32
  let c1_i32_396 : BitVec 32 := 1#32
  let arg12 : BitVec 32 := Scf.iv c0_i32_394 c1_i32_396 k0_t14
  let c64_i32 : BitVec 32 := 64#32
  let v1104 : BitVec 32 := Scalar.muli arg12 c64_i32
  let v1105 : Index := Scalar.indexCast v1104
  let c0_581 : Index := 0#32
  ![v1105.toNat, 0]
@[reducible] def k0_t15_loop : Scf.Loop 32 :=
  let c0_i32_450 : BitVec 32 := 0#32
  let c32_i32_451 : BitVec 32 := 32#32
  let v827 : BitVec 32 := Scalar.addi c0_i32_450 c32_i32_451
  let c1_i32_452 : BitVec 32 := 1#32
  ⟨c0_i32_450, v827, c1_i32_452⟩
def k0_off21 (k0_t15 : Fin k0_t15_loop.trips) : Fin 2 → Nat :=
  let c0_i32_450 : BitVec 32 := 0#32
  let c1_i32_452 : BitVec 32 := 1#32
  let arg12 : BitVec 32 := Scf.iv c0_i32_450 c1_i32_452 k0_t15
  let c64_i32 : BitVec 32 := 64#32
  let v1104 : BitVec 32 := Scalar.muli arg12 c64_i32
  let v1105 : Index := Scalar.indexCast v1104
  let c0_581 : Index := 0#32
  ![v1105.toNat, 0]
@[reducible] def k0_t16_loop : Scf.Loop 32 :=
  let c0_i32_458 : BitVec 32 := 0#32
  let c32_i32_459 : BitVec 32 := 32#32
  let v829 : BitVec 32 := Scalar.addi c0_i32_458 c32_i32_459
  let c1_i32_460 : BitVec 32 := 1#32
  ⟨c0_i32_458, v829, c1_i32_460⟩
def k0_off22 (k0_t16 : Fin k0_t16_loop.trips) : Fin 2 → Nat :=
  let c0_i32_458 : BitVec 32 := 0#32
  let c1_i32_460 : BitVec 32 := 1#32
  let arg12 : BitVec 32 := Scf.iv c0_i32_458 c1_i32_460 k0_t16
  let c64_i32 : BitVec 32 := 64#32
  let v1104 : BitVec 32 := Scalar.muli arg12 c64_i32
  let v1105 : Index := Scalar.indexCast v1104
  let c0_581 : Index := 0#32
  ![v1105.toNat, 0]
@[reducible] def k0_t17_loop : Scf.Loop 32 :=
  let c0_i32_514 : BitVec 32 := 0#32
  let c32_i32_515 : BitVec 32 := 32#32
  let v951 : BitVec 32 := Scalar.addi c0_i32_514 c32_i32_515
  let c1_i32_516 : BitVec 32 := 1#32
  ⟨c0_i32_514, v951, c1_i32_516⟩
def k0_off23 (k0_t17 : Fin k0_t17_loop.trips) : Fin 2 → Nat :=
  let c0_i32_514 : BitVec 32 := 0#32
  let c1_i32_516 : BitVec 32 := 1#32
  let arg12 : BitVec 32 := Scf.iv c0_i32_514 c1_i32_516 k0_t17
  let c64_i32 : BitVec 32 := 64#32
  let v1104 : BitVec 32 := Scalar.muli arg12 c64_i32
  let v1105 : Index := Scalar.indexCast v1104
  let c0_581 : Index := 0#32
  ![v1105.toNat, 0]
@[reducible] def k0_t18_loop : Scf.Loop 32 :=
  let c0_i32_522 : BitVec 32 := 0#32
  let c32_i32_523 : BitVec 32 := 32#32
  let v953 : BitVec 32 := Scalar.addi c0_i32_522 c32_i32_523
  let c1_i32_524 : BitVec 32 := 1#32
  ⟨c0_i32_522, v953, c1_i32_524⟩
def k0_off24 (k0_t18 : Fin k0_t18_loop.trips) : Fin 2 → Nat :=
  let c0_i32_522 : BitVec 32 := 0#32
  let c1_i32_524 : BitVec 32 := 1#32
  let arg12 : BitVec 32 := Scf.iv c0_i32_522 c1_i32_524 k0_t18
  let c64_i32 : BitVec 32 := 64#32
  let v1104 : BitVec 32 := Scalar.muli arg12 c64_i32
  let v1105 : Index := Scalar.indexCast v1104
  let c0_581 : Index := 0#32
  ![v1105.toNat, 0]
def k0_off25 (k0_t1 : Fin k0_t1_loop.trips) : Fin 3 → Nat :=
  let c0_i32_13 : BitVec 32 := 0#32
  let c1_i32 : BitVec 32 := 1#32
  let arg11 : BitVec 32 := Scf.iv c0_i32_13 c1_i32 k0_t1
  let v1100 : Index := Scalar.indexCast arg11
  let c0_579 : Index := 0#32
  let c0_580 : Index := 0#32
  ![v1100.toNat, 0, 0]
abbrev stage0_0 : Fin 1 → Memref sig .tc .vmem S16x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "cap" => some ⊤
  | "log2e" => some (((Real.log 2)⁻¹ : ℝ) : EReal)
  | "neg_half_log2e" => some (((-(1 / 2)) * (Real.log 2)⁻¹ : ℝ) : EReal)
  | _ => none
-- ==== ReferenceIdeal.lean ====
abbrev S16x1x512x512 : Shape := ⟨4, ![16, 1, 512, 512]⟩
abbrev S16x262144 : Shape := ⟨2, ![16, 262144]⟩
abbrev S_ : Shape := ⟨0, ![]⟩
abbrev S16 : Shape := ⟨1, ![16]⟩
abbrev S16x1 : Shape := ⟨2, ![16, 1]⟩
abbrev S64 : Shape := ⟨1, ![64]⟩
abbrev S1 : Shape := ⟨1, ![1]⟩
abbrev S65 : Shape := ⟨1, ![65]⟩
abbrev S16x262144x1 : Shape := ⟨3, ![16, 262144, 1]⟩
abbrev S1x1x64 : Shape := ⟨3, ![1, 1, 64]⟩
abbrev S16x262144x64 : Shape := ⟨3, ![16, 262144, 64]⟩
abbrev S16x64 : Shape := ⟨2, ![16, 64]⟩

abbrev nBuf : Space → Nat
  | .hbm => 120
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S16x262144, .f32⟩
  | .hbm, ⟨3, _⟩ => ⟨S16x262144, .f32⟩
  | .hbm, ⟨4, _⟩ => ⟨S_, .f32⟩
  | .hbm, ⟨5, _⟩ => ⟨S16, .f32⟩
  | .hbm, ⟨6, _⟩ => ⟨S16x1, .f32⟩
  | .hbm, ⟨7, _⟩ => ⟨S_, .f32⟩
  | .hbm, ⟨8, _⟩ => ⟨S16, .f32⟩
  | .hbm, ⟨9, _⟩ => ⟨S16x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S1, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S1, .f32⟩
  | .hbm, ⟨32, _⟩ => ⟨S65, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S_, .f32⟩
  | .hbm, ⟨44, _⟩ => ⟨S16x1, .f32⟩
  | .hbm, ⟨45, _⟩ => ⟨S_, .f32⟩
  | .hbm, ⟨46, _⟩ => ⟨S16x1, .f32⟩
  | .hbm, ⟨47, _⟩ => ⟨S16x1, .f32⟩
  | .hbm, ⟨48, _⟩ => ⟨S16x262144, .f32⟩
  | .hbm, ⟨49, _⟩ => ⟨S16x262144, .f32⟩
  | .hbm, ⟨50, _⟩ => ⟨S16x262144, .f32⟩
  | .hbm, ⟨51, _⟩ => ⟨S16x262144, .f32⟩
  | .hbm, ⟨52, _⟩ => ⟨S16x262144, .f32⟩
  | .hbm, ⟨53, _⟩ => ⟨S16x262144, .f32⟩
  | .hbm, ⟨54, _⟩ => ⟨S16x262144, .f32⟩
  | .hbm, ⟨55, _⟩ => ⟨S16x262144, .f32⟩
  | .hbm, ⟨56, _⟩ => ⟨S16x262144x1, .f32⟩
  | .hbm, ⟨57, _⟩ => ⟨S1x1x64, .f32⟩
  | .hbm, ⟨58, _⟩ => ⟨S16x262144x64, .f32⟩
  | .hbm, ⟨59, _⟩ => ⟨S16x262144x64, .f32⟩
  | .hbm, ⟨60, _⟩ => ⟨S16x262144x64, .f32⟩
  | .hbm, ⟨61, _⟩ => ⟨S16x262144x64, .f32⟩
  | .hbm, ⟨62, _⟩ => ⟨S16x262144x64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S16x262144x64, .f32⟩
  | .hbm, ⟨67, _⟩ => ⟨S16x262144x64, .f32⟩
  | .hbm, ⟨68, _⟩ => ⟨S16x262144x64, .f32⟩
  | .hbm, ⟨69, _⟩ => ⟨S_, .f32⟩
  | .hbm, ⟨70, _⟩ => ⟨S16x64, .f32⟩
  | .hbm, ⟨71, _⟩ => ⟨S16x262144x1, .f32⟩
  | .hbm, ⟨72, _⟩ => ⟨S1x1x64, .f32⟩
  | .hbm, ⟨73, _⟩ => ⟨S16x262144x64, .f32⟩
  | .hbm, ⟨74, _⟩ => ⟨S16x262144x64, .f32⟩
  | .hbm, ⟨75, _⟩ => ⟨S16x262144x64, .f32⟩
  | .hbm, ⟨76, _⟩ => ⟨S16x262144x64, .f32⟩
  | .hbm, ⟨77, _⟩ => ⟨S16x262144x64, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S16x262144x64, .f32⟩
  | .hbm, ⟨82, _⟩ => ⟨S16x262144x64, .f32⟩
  | .hbm, ⟨83, _⟩ => ⟨S16x262144x64, .f32⟩
  | .hbm, ⟨84, _⟩ => ⟨S_, .f32⟩
  | .hbm, ⟨85, _⟩ => ⟨S16x64, .f32⟩
  | .hbm, ⟨86, _⟩ => ⟨S_, .f32⟩
  | .hbm, ⟨87, _⟩ => ⟨S16, .f32⟩
  | .hbm, ⟨88, _⟩ => ⟨S16x1, .f32⟩
  | .hbm, ⟨89, _⟩ => ⟨S_, .f32⟩
  | .hbm, ⟨90, _⟩ => ⟨S16x1, .f32⟩
  | .hbm, ⟨91, _⟩ => ⟨S16x1, .f32⟩
  | .hbm, ⟨92, _⟩ => ⟨S16x64, .f32⟩
  | .hbm, ⟨93, _⟩ => ⟨S16x64, .f32⟩
  | .hbm, ⟨94, _⟩ => ⟨S_, .f32⟩
  | .hbm, ⟨95, _⟩ => ⟨S16, .f32⟩
  | .hbm, ⟨96, _⟩ => ⟨S16x1, .f32⟩
  | .hbm, ⟨97, _⟩ => ⟨S_, .f32⟩
  | .hbm, ⟨98, _⟩ => ⟨S16x1, .f32⟩
  | .hbm, ⟨99, _⟩ => ⟨S16x1, .f32⟩
  | .hbm, ⟨100, _⟩ => ⟨S16x64, .f32⟩
  | .hbm, ⟨101, _⟩ => ⟨S16x64, .f32⟩
  | .hbm, ⟨102, _⟩ => ⟨S_, .f32⟩
  | .hbm, ⟨103, _⟩ => ⟨S16x64, .f32⟩
  | .hbm, ⟨104, _⟩ => ⟨S16x64, .f32⟩
  | .hbm, ⟨105, _⟩ => ⟨S16x64, .f32⟩
  | .hbm, ⟨106, _⟩ => ⟨S_, .f32⟩
  | .hbm, ⟨107, _⟩ => ⟨S16x64, .f32⟩
  | .hbm, ⟨108, _⟩ => ⟨S16x64, .f32⟩
  | .hbm, ⟨109, _⟩ => ⟨S16x64, .f32⟩
  | .hbm, ⟨110, _⟩ => ⟨S16x64, .f32⟩
  | .hbm, ⟨111, _⟩ => ⟨S16x64, .f32⟩
  | .hbm, ⟨112, _⟩ => ⟨S_, .f32⟩
  | .hbm, ⟨113, _⟩ => ⟨S16, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_3 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_4 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_11 : Ref sig .tc := ⟨.hbm, 94, rfl⟩
abbrev main_v60 : Ref sig .tc := ⟨.hbm, 95, rfl⟩
abbrev main_v61 : Ref sig .tc := ⟨.hbm, 96, rfl⟩
abbrev main_cst_12 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_14 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_15 : Ref sig .tc := ⟨.hbm, 112, rfl⟩
abbrev main_v74 : Ref sig .tc := ⟨.hbm, 113, rfl⟩
abbrev main_cst_16 : Ref sig .tc := ⟨.hbm, 114, rfl⟩
abbrev main_v75 : Ref sig .tc := ⟨.hbm, 115, rfl⟩
abbrev main_cst_17 : Ref sig .tc := ⟨.hbm, 116, rfl⟩
abbrev main_v76 : Ref sig .tc := ⟨.hbm, 117, rfl⟩
abbrev main_cst_18 : Ref sig .tc := ⟨.hbm, 118, rfl⟩
abbrev main_v77 : Ref sig .tc := ⟨.hbm, 119, rfl⟩

abbrev nD : Nat := 1
abbrev τ : Topo := Topo.v7x

variable {F : FTy → Type} [FloatOps F]
-- ==== Proof.KernelIdealLoops.lean ====
/-
  The counted loops inside one batch entry of the kernel, as invariants at the algebra of a run with transfers.

  Every inner loop walks a 2048x128 buffer in 32 chunks of 64 rows and folds each chunk into a carried value. One loop
  folds minimum and maximum; the sixteen others fold the eight running sums of a group of bins. All are instances of
  `foldLoop`: the carried value before trip `k` is `foldN` of the buffer's contents.
-/
module

public import proofs.«01_k».proof.Proof.Gen.KernelIdeal.Loops
public import Idealize.ShloMosaic.Lib.Exec
public import Idealize.ShloMosaic.Lib.Tactic
public import Idealize.ShloMosaic.Lib.Pipeline.FrameBody

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of a run that starts transfers and waits for them. -/
local notation "𝕄" => MT nD τ sig Unit (Elt F) ℕ (Pipeline.UD sig nD τ) ℕ

/-! ## The fold over the 32 chunks -/

theorem inb_chunk (k : ℕ) (h : k < 32) : ∀ a, (![64 * k, 0] : Fin 2 → ℕ) a + S64x128.size a ≤ S2048x128.size a := by
  intro a; fin_cases a
  · show 64 * k + 64 ≤ 2048; omega
  · show 0 + 128 ≤ 128; omega

/-- Rows `64 k … 64 k + 63` of a 2048x128 array. -/
def chunkAt {α : Type} (Z : S2048x128.Idx → α) (k : ℕ) (h : k < 32) : S64x128.Idx → α :=
  fun i => Z ((Rect.unit (s := S2048x128) ![64 * k, 0] S64x128.size (inb_chunk k h)).emb i)

/-- The carried value before trip `k`: `g` of each chunk before it in turn, from `init`. -/
def foldN {A : Type} (g : A → Vec F S64x128 .f32 → A) (Z : S2048x128.Idx → F .f32) (init : A) : ℕ → A
  | 0 => init
  | k + 1 => if h : k < 32 then g (foldN g Z init k) (chunkAt Z k h) else foldN g Z init k

theorem foldN_succ {A : Type} (g : A → Vec F S64x128 .f32 → A) (Z : S2048x128.Idx → F .f32) (init : A) (k : ℕ) (h : k < 32) :
    foldN g Z init (k + 1) = g (foldN g Z init k) (chunkAt Z k h) := dif_pos h

set_option warn.classDefReducibility false in
/-- A loop whose trip loads chunk `k` of `M` and folds it into the carried value. -/
def foldLoop (c : Dev nD) {A : Type} {lb ub st : BitVec 32} (hok : Scf.OK lb ub st) (hT : Scf.trips lb ub st ≤ 32)
    (M : Memref sig .tc .vmem S2048x128 .f32) (off : Fin (Scf.trips lb ub st) → Fin 2 → ℕ)
    (inb : ∀ k a, off k a + S64x128.size a ≤ S2048x128.size a) (hoff : ∀ k, off k = ![64 * k.val, 0])
    (g : A → Vec F S64x128 .f32 → A) (init : A)
    (body : Fin (Scf.trips lb ub st) → A → Prog (TpuEff nD τ sig (Elt F) Λ₀ .tc) A)
    (hbody : ∀ k acc, body k acc = Prog.lift (.load M (Rect.unit (s := S2048x128) (off k) S64x128.size (inb k)).toLoadRect
        (View.loadsAt_vmem h_S64x128)) >>= fun v => pure (g acc v))
    (X : BufTy.Contents (Elt F) M.view.ty) :
    LoopInv (M := 𝕄) frame (wpE (defs₀ (F := F)) Variants.none (c : Thread nD τ) none) Set.univ lb ub st hok init body where
  inv k acc := iprop((M.view.loc (c : Thread nD τ) ↦[M.view.set]{fullShare} X) ∗ ⌜acc = foldN g (M.view.read (Elt F) X) init k⌝)
  step k acc := by
    have hk : k.val < 32 := Nat.lt_of_lt_of_le k.isLt hT
    have hv : (fun i => M.view.read (Elt F) X ((Rect.unit (s := S2048x128) (off k) S64x128.size (inb k)).emb i))
        = chunkAt (M.view.read (Elt F) X) k.val hk := by
      unfold chunkAt
      have e := hoff k
      revert e
      generalize inb k = ib
      revert ib
      generalize off k = o
      intro ib e
      subst e
      rfl
    iintro ⟨HX, %hacc⟩
    subst hacc
    rw [hbody]
    sl_exec
    sl_step
    isplitl [HX]; · iexact HX
    ipureintro
    rw [foldN_succ g _ init k.val hk, ← hv]

/-! ## Minimum and maximum -/

/-- The two carried values of the loop over the targets: the running minimum and maximum per sublane and lane. -/
abbrev MM (F : FTy → Type) : Type := FVec F S8x128 .f32 × FVec F S8x128 .f32

/-- A chunk as eight blocks of eight rows. -/
def blocks (v : Vec F S64x128 .f32) : FVec F S8x8x128 .f32 := shapeCast S8x8x128 v shapeCasts_S64x128_S8x8x128

def mmStep (a : MM F) (v : Vec F S64x128 .f32) : MM F :=
  (minimumf a.1 (multiReduction .minimumf [0] S8x128 (blocks v) 0x7F800000#32 reduces_S8x8x128_S8x128 (.inl rfl) rfl),
   maximumf a.2 (multiReduction .maximumf [0] S8x128 (blocks v) 0xFF800000#32 reduces_S8x8x128_S8x128 (.inl rfl) rfl))

/-! ## The running sums of a group of eight bins -/

abbrev A8 (F : FTy → Type) : Type :=
  FVec F S8x128 .f32 × FVec F S8x128 .f32 × FVec F S8x128 .f32 × FVec F S8x128 .f32 × FVec F S8x128 .f32 × FVec F S8x128 .f32
    × FVec F S8x128 .f32 × FVec F S8x128 .f32

/-- Component `k` of the eight carried values. -/
def A8.at (a : A8 F) : Fin 8 → FVec F S8x128 .f32
  | 0 => a.1 | 1 => a.2.1 | 2 => a.2.2.1 | 3 => a.2.2.2.1 | 4 => a.2.2.2.2.1 | 5 => a.2.2.2.2.2.1 | 6 => a.2.2.2.2.2.2.1
  | 7 => a.2.2.2.2.2.2.2

/-- The distance of the chunk's values from the group's first centre, capped. -/
def dist (sh hi : F .f32) (v : Vec F S64x128 .f32) : FVec F S64x128 .f32 :=
  minimumf (subf v (broadcast S64x128 sh)) (broadcast S64x128 hi)

/-- The chunk's weights for bin `k` of the group: the first bin's weight, times the common ratio `k` times. -/
def weight (sh hi nl l2 : F .f32) (v : Vec F S64x128 .f32) : ℕ → FVec F S64x128 .f32
  | 0 => exp2 (mulf (mulf (dist sh hi v) (broadcast S64x128 nl)) (dist sh hi v))
  | k + 1 => mulf (weight sh hi nl l2 v k) (exp2 (mulf (dist sh hi v) (broadcast S64x128 l2)))

/-- The sum of a chunk's eight blocks. -/
def sum8 (v : FVec F S64x128 .f32) : FVec F S8x128 .f32 :=
  multiReduction .add [0] S8x128 (blocks v) 0x00000000#32 reduces_S8x8x128_S8x128 (.inl rfl) rfl

def grpStep (sh hi nl l2 : F .f32) (a : A8 F) (v : Vec F S64x128 .f32) : A8 F :=
  (addf (a.at 0) (sum8 (weight sh hi nl l2 v 0)), addf (a.at 1) (sum8 (weight sh hi nl l2 v 1)),
   addf (a.at 2) (sum8 (weight sh hi nl l2 v 2)), addf (a.at 3) (sum8 (weight sh hi nl l2 v 3)),
   addf (a.at 4) (sum8 (weight sh hi nl l2 v 4)), addf (a.at 5) (sum8 (weight sh hi nl l2 v 5)),
   addf (a.at 6) (sum8 (weight sh hi nl l2 v 6)), addf (a.at 7) (sum8 (weight sh hi nl l2 v 7)))

/-- The constants of the weights. -/
def hiC : F .f32 := Named.named κ "cap" 0x423C0000#32
def nlC : F .f32 := Named.named κ "neg_half_log2e" 0xBF38AA3B#32
def l2C : F .f32 := Named.named κ "log2e" 0x3FB8AA3B#32

/-! ## The loops -/

section Loops

variable (c : Dev nD) (arg0 : Memref sig .tc .hbm S16x2048x128 .f32) (harg0 : arg0.IsWhole) (arg1 : Memref sig .tc .hbm S16x2048x128 .f32) (harg1 : arg1.IsWhole) (arg2 : Memref sig .tc .vmem S16x8x128 .f32) (harg2 : arg2.IsWhole) (arg3 : Memref sig .tc .vmem S2x2048x128 .f32) (harg3 : arg3.IsWhole) (arg4 : Memref sig .tc .vmem S2x2048x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S2048x128 .f32) (harg7 : arg7.IsWhole) (arg8 : Memref sig .tc .vmem S2048x128 .f32) (harg8 : arg8.IsWhole) (arg9 : DmaSems sig S2) (arg10 : DmaSems sig S2)

set_option warn.classDefReducibility false in
/-- Group 0 of the targets. -/
@[sl_loop] def loop_t3 (v67 : F .f32) (v68 : F .f32) (v75 : FVec F S8x128 .f32) (v76 : FVec F S8x128 .f32) (v77 : FVec F S8x128 .f32) (v78 : FVec F S8x128 .f32) (v79 : FVec F S8x128 .f32) (init : A8 F) (X : BufTy.Contents (Elt F) arg7.view.ty) :
    LoopInvTy_k0_t3 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v75 v76 v77 v78 v79 init :=
  foldLoop c k0_t3_ok k0_t3_abs.2.1 _ k0_off9 k0_off9_inb (by decide) (grpStep (Scalar.ofBits .f32 0x3F000000#32) hiC nlC l2C) init _ (fun _ _ => rfl) X

set_option warn.classDefReducibility false in
/-- Group 0 of the predictions. -/
@[sl_loop] def loop_t4 (v67 : F .f32) (v68 : F .f32) (v75 : FVec F S8x128 .f32) (v76 : FVec F S8x128 .f32) (v77 : FVec F S8x128 .f32) (v78 : FVec F S8x128 .f32) (v79 : FVec F S8x128 .f32) (init : A8 F) (X : BufTy.Contents (Elt F) arg8.view.ty) :
    LoopInvTy_k0_t4 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v75 v76 v77 v78 v79 init :=
  foldLoop c k0_t4_ok k0_t4_abs.2.1 _ k0_off10 k0_off10_inb (by decide) (grpStep (Scalar.ofBits .f32 0x3F000000#32) hiC nlC l2C) init _ (fun _ _ => rfl) X

set_option warn.classDefReducibility false in
/-- Group 1 of the targets. -/
@[sl_loop] def loop_t5 (v74 : F .f32) (v84_7 : FVec F S8x128 .f32) (v86_7 : FVec F S8x128 .f32) (init : A8 F) (X : BufTy.Contents (Elt F) arg7.view.ty) :
    LoopInvTy_k0_t5 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v74 v84_7 v86_7 init :=
  foldLoop c k0_t5_ok k0_t5_abs.2.1 _ k0_off11 k0_off11_inb (by decide) (grpStep (Scalar.ofBits .f32 0x41080000#32) hiC nlC l2C) init _ (fun _ _ => rfl) X

set_option warn.classDefReducibility false in
/-- Group 1 of the predictions. -/
@[sl_loop] def loop_t6 (v74 : F .f32) (v84_7 : FVec F S8x128 .f32) (v86_7 : FVec F S8x128 .f32) (init : A8 F) (X : BufTy.Contents (Elt F) arg8.view.ty) :
    LoopInvTy_k0_t6 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v74 v84_7 v86_7 init :=
  foldLoop c k0_t6_ok k0_t6_abs.2.1 _ k0_off12 k0_off12_inb (by decide) (grpStep (Scalar.ofBits .f32 0x41080000#32) hiC nlC l2C) init _ (fun _ _ => rfl) X

set_option warn.classDefReducibility false in
/-- Group 2 of the targets. -/
@[sl_loop] def loop_t7 (v67 : F .f32) (v68 : F .f32) (v323 : FVec F S8x128 .f32) (v324 : FVec F S8x128 .f32) (v325 : FVec F S8x128 .f32) (init : A8 F) (X : BufTy.Contents (Elt F) arg7.view.ty) :
    LoopInvTy_k0_t7 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v323 v324 v325 init :=
  foldLoop c k0_t7_ok k0_t7_abs.2.1 _ k0_off13 k0_off13_inb (by decide) (grpStep (Scalar.ofBits .f32 0x41840000#32) hiC nlC l2C) init _ (fun _ _ => rfl) X

set_option warn.classDefReducibility false in
/-- Group 2 of the predictions. -/
@[sl_loop] def loop_t8 (v67 : F .f32) (v68 : F .f32) (v323 : FVec F S8x128 .f32) (v324 : FVec F S8x128 .f32) (v325 : FVec F S8x128 .f32) (init : A8 F) (X : BufTy.Contents (Elt F) arg8.view.ty) :
    LoopInvTy_k0_t8 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v323 v324 v325 init :=
  foldLoop c k0_t8_ok k0_t8_abs.2.1 _ k0_off14 k0_off14_inb (by decide) (grpStep (Scalar.ofBits .f32 0x41840000#32) hiC nlC l2C) init _ (fun _ _ => rfl) X

set_option warn.classDefReducibility false in
/-- Group 3 of the targets. -/
@[sl_loop] def loop_t9 (v74 : F .f32) (v332_7 : FVec F S8x128 .f32) (v334_7 : FVec F S8x128 .f32) (v429 : FVec F S1x128 .f32) (init : A8 F) (X : BufTy.Contents (Elt F) arg7.view.ty) :
    LoopInvTy_k0_t9 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v74 v332_7 v334_7 v429 init :=
  foldLoop c k0_t9_ok k0_t9_abs.2.1 _ k0_off15 k0_off15_inb (by decide) (grpStep (Scalar.ofBits .f32 0x41C40000#32) hiC nlC l2C) init _ (fun _ _ => rfl) X

set_option warn.classDefReducibility false in
/-- Group 3 of the predictions. -/
@[sl_loop] def loop_t10 (v67 : F .f32) (v68 : F .f32) (v69 : F .f32) (v447 : FVec F S8x128 .f32) (v448 : FVec F S8x128 .f32) (v449 : FVec F S8x128 .f32) (v450 : FVec F S8x128 .f32) (v451 : FVec F S8x128 .f32) (v452 : FVec F S8x128 .f32) (v453 : FVec F S8x128 .f32) (v454 : FVec F S8x128 .f32) (v456_0 : FVec F S8x128 .f32) (v456_1 : FVec F S8x128 .f32) (v456_2 : FVec F S8x128 .f32) (cst_262 : F .f32) (cst_263 : F .f32) (cst_264 : F .f32) (cst_265 : F .f32) (c0_i32_266 : BitVec 32) (c1_i32_268 : BitVec 32) (init : A8 F) (X : BufTy.Contents (Elt F) arg8.view.ty) :
    LoopInvTy_k0_t10 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v69 v447 v448 v449 v450 v451 v452 v453 v454 v456_0 v456_1 v456_2 cst_262 cst_263 cst_264 cst_265 c0_i32_266 c1_i32_268 init :=
  foldLoop c k0_t10_ok k0_t10_abs.2.1 _ k0_off16 k0_off16_inb (by decide) (grpStep cst_262 cst_263 cst_264 cst_265) init _ (fun _ _ => rfl) X

set_option warn.classDefReducibility false in
/-- Group 4 of the targets. -/
@[sl_loop] def loop_t11 (v67 : F .f32) (v68 : F .f32) (v571 : FVec F S8x128 .f32) (init : A8 F) (X : BufTy.Contents (Elt F) arg7.view.ty) :
    LoopInvTy_k0_t11 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v571 init :=
  foldLoop c k0_t11_ok k0_t11_abs.2.1 _ k0_off17 k0_off17_inb (by decide) (grpStep (Scalar.ofBits .f32 0x42020000#32) hiC nlC l2C) init _ (fun _ _ => rfl) X

set_option warn.classDefReducibility false in
/-- Group 4 of the predictions. -/
@[sl_loop] def loop_t12 (v67 : F .f32) (v68 : F .f32) (v571 : FVec F S8x128 .f32) (init : A8 F) (X : BufTy.Contents (Elt F) arg8.view.ty) :
    LoopInvTy_k0_t12 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v571 init :=
  foldLoop c k0_t12_ok k0_t12_abs.2.1 _ k0_off18 k0_off18_inb (by decide) (grpStep (Scalar.ofBits .f32 0x42020000#32) hiC nlC l2C) init _ (fun _ _ => rfl) X

set_option warn.classDefReducibility false in
/-- Group 5 of the targets. -/
@[sl_loop] def loop_t13 (v73 : F .f32) (v74 : F .f32) (v580_7 : FVec F S8x128 .f32) (v582_7 : FVec F S8x128 .f32) (v675 : FVec F S1x128 .f32) (init : A8 F) (X : BufTy.Contents (Elt F) arg7.view.ty) :
    LoopInvTy_k0_t13 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v73 v74 v580_7 v582_7 v675 init :=
  foldLoop c k0_t13_ok k0_t13_abs.2.1 _ k0_off19 k0_off19_inb (by decide) (grpStep (Scalar.ofBits .f32 0x42220000#32) hiC nlC l2C) init _ (fun _ _ => rfl) X

set_option warn.classDefReducibility false in
/-- Group 5 of the predictions. -/
@[sl_loop] def loop_t14 (v67 : F .f32) (v68 : F .f32) (v69 : F .f32) (v695 : FVec F S8x128 .f32) (v696 : FVec F S8x128 .f32) (v697 : FVec F S8x128 .f32) (v698 : FVec F S8x128 .f32) (v699 : FVec F S8x128 .f32) (v700 : FVec F S8x128 .f32) (v701 : FVec F S8x128 .f32) (v702 : FVec F S8x128 .f32) (v704_0 : FVec F S8x128 .f32) (v704_1 : FVec F S8x128 .f32) (v704_2 : FVec F S8x128 .f32) (cst_390 : F .f32) (cst_391 : F .f32) (cst_392 : F .f32) (cst_393 : F .f32) (init : A8 F) (X : BufTy.Contents (Elt F) arg8.view.ty) :
    LoopInvTy_k0_t14 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v69 v695 v696 v697 v698 v699 v700 v701 v702 v704_0 v704_1 v704_2 cst_390 cst_391 cst_392 cst_393 init :=
  foldLoop c k0_t14_ok k0_t14_abs.2.1 _ k0_off20 k0_off20_inb (by decide) (grpStep cst_390 cst_391 cst_392 cst_393) init _ (fun _ _ => rfl) X

set_option warn.classDefReducibility false in
/-- Group 6 of the targets. -/
@[sl_loop] def loop_t15 (v67 : F .f32) (v815 : FVec F S1x128 .f32) (init : A8 F) (X : BufTy.Contents (Elt F) arg7.view.ty) :
    LoopInvTy_k0_t15 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v815 init :=
  foldLoop c k0_t15_ok k0_t15_abs.2.1 _ k0_off21 k0_off21_inb (by decide) (grpStep (Scalar.ofBits .f32 0x42420000#32) hiC nlC l2C) init _ (fun _ _ => rfl) X

set_option warn.classDefReducibility false in
/-- Group 6 of the predictions. -/
@[sl_loop] def loop_t16 (v67 : F .f32) (v815 : FVec F S1x128 .f32) (init : A8 F) (X : BufTy.Contents (Elt F) arg8.view.ty) :
    LoopInvTy_k0_t16 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v815 init :=
  foldLoop c k0_t16_ok k0_t16_abs.2.1 _ k0_off22 k0_off22_inb (by decide) (grpStep (Scalar.ofBits .f32 0x42420000#32) hiC nlC l2C) init _ (fun _ _ => rfl) X

set_option warn.classDefReducibility false in
/-- Group 7 of the targets. -/
@[sl_loop] def loop_t17 (v73 : F .f32) (v74 : F .f32) (v828_7 : FVec F S8x128 .f32) (v830_6 : FVec F S8x128 .f32) (v830_7 : FVec F S8x128 .f32) (v921 : FVec F S1x128 .f32) (init : A8 F) (X : BufTy.Contents (Elt F) arg7.view.ty) :
    LoopInvTy_k0_t17 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v73 v74 v828_7 v830_6 v830_7 v921 init :=
  foldLoop c k0_t17_ok k0_t17_abs.2.1 _ k0_off23 k0_off23_inb (by decide) (grpStep (Scalar.ofBits .f32 0x42620000#32) hiC nlC l2C) init _ (fun _ _ => rfl) X

set_option warn.classDefReducibility false in
/-- Group 7 of the predictions. -/
@[sl_loop] def loop_t18 (v67 : F .f32) (v68 : F .f32) (v69 : F .f32) (v943 : FVec F S8x128 .f32) (v944 : FVec F S8x128 .f32) (v945 : FVec F S8x128 .f32) (v946 : FVec F S8x128 .f32) (v947 : FVec F S8x128 .f32) (v948 : FVec F S8x128 .f32) (v949 : FVec F S8x128 .f32) (v950 : FVec F S8x128 .f32) (v952_0 : FVec F S8x128 .f32) (v952_1 : FVec F S8x128 .f32) (v952_2 : FVec F S8x128 .f32) (init : A8 F) (X : BufTy.Contents (Elt F) arg8.view.ty) :
    LoopInvTy_k0_t18 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 v67 v68 v69 v943 v944 v945 v946 v947 v948 v949 v950 v952_0 v952_1 v952_2 init :=
  foldLoop c k0_t18_ok k0_t18_abs.2.1 _ k0_off24 k0_off24_inb (by decide) (grpStep (Scalar.ofBits .f32 0x42620000#32) hiC nlC l2C) init _ (fun _ _ => rfl) X

end Loops

end Cert.Proof.KernelIdeal

end
-- ==== Proof.KernelIdealParts.lean ====
/-
  The kernel's printed parts that mention no named constant, each equal to its skeleton without an instance for the named
  constants in the equation's binders: the form in which a run part by part can rewrite along it.
-/
module

public import proofs.«01_k».proof.Proof.Gen.KernelIdeal.Skeleton

@[expose] public section

set_option maxRecDepth 65536

namespace Cert.KernelIdeal

open Cert.KernelIdeal.Gen
open Idealize.ShloMosaic

variable {F : FTy → Type} [FloatOps F]

theorem k0_part1_eq_skeleton : k0_part1 (F := F) = k0_part1_skel (F := F) := rfl
theorem k0_part2_eq_skeleton : k0_part2 (F := F) = k0_part2_skel (F := F) := rfl
theorem k0_part4_eq_skeleton : k0_part4 (F := F) = k0_part4_skel (F := F) := rfl
theorem k0_part5_eq_skeleton : k0_part5 (F := F) = k0_part5_skel (F := F) := rfl
theorem k0_part7_eq_skeleton : k0_part7 (F := F) = k0_part7_skel (F := F) := rfl
theorem k0_part8_eq_skeleton : k0_part8 (F := F) = k0_part8_skel (F := F) := rfl
theorem k0_part9_eq_skeleton : k0_part9 (F := F) = k0_part9_skel (F := F) := rfl
theorem k0_part11_eq_skeleton : k0_part11 (F := F) = k0_part11_skel (F := F) := rfl
theorem k0_part12_eq_skeleton : k0_part12 (F := F) = k0_part12_skel (F := F) := rfl
theorem k0_part14_eq_skeleton : k0_part14 (F := F) = k0_part14_skel (F := F) := rfl
theorem k0_part15_eq_skeleton : k0_part15 (F := F) = k0_part15_skel (F := F) := rfl
theorem k0_part16_eq_skeleton : k0_part16 (F := F) = k0_part16_skel (F := F) := rfl
theorem k0_part18_eq_skeleton : k0_part18 (F := F) = k0_part18_skel (F := F) := rfl
theorem k0_part19_eq_skeleton : k0_part19 (F := F) = k0_part19_skel (F := F) := rfl
theorem k0_part21_eq_skeleton : k0_part21 (F := F) = k0_part21_skel (F := F) := rfl
theorem k0_part22_eq_skeleton : k0_part22 (F := F) = k0_part22_skel (F := F) := rfl
theorem k0_part23_eq_skeleton : k0_part23 (F := F) = k0_part23_skel (F := F) := rfl
theorem k0_part25_eq_skeleton : k0_part25 (F := F) = k0_part25_skel (F := F) := rfl
theorem k0_part26_eq_skeleton : k0_part26 (F := F) = k0_part26_skel (F := F) := rfl
theorem k0_part29_eq_skeleton : k0_part29 (F := F) = k0_part29_skel (F := F) := rfl
theorem k0_part30_eq_skeleton : k0_part30 (F := F) = k0_part30_skel (F := F) := rfl

end Cert.KernelIdeal
-- ==== Proof.KernelIdealSlots.lean ====
/-
  The two slots of each staged input, the transfers into them, and the first part of a trip.

  Batch entry `k` lands in slot `k mod 2`. The first part of trip `k` starts the transfers of entry `k + 1` into the other
  slots (none in the last trip), waits for those of entry `k`, and reduces the landed targets to their minimum and range.
-/
module

public import proofs.«01_k».proof.Proof.KernelIdealLoops
public import proofs.«01_k».proof.Proof.KernelIdealParts
public import Idealize.ShloMosaic.Lib.Ring

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! ## Slots, blocks, cells -/

theorem inb_slot (s : Fin 2) : ∀ a, (![s.val, 0, 0] : Fin 3 → ℕ) a + S1x2048x128.size a ≤ S2x2048x128.size a := by
  have := s.isLt
  intro a; fin_cases a
  · show s.val + 1 ≤ 2; omega
  · show 0 + 2048 ≤ 2048; omega
  · show 0 + 128 ≤ 128; omega
theorem inb_blk (b : Fin 16) : ∀ a, (![b.val, 0, 0] : Fin 3 → ℕ) a + S1x2048x128.size a ≤ S16x2048x128.size a := by
  have := b.isLt
  intro a; fin_cases a
  · show b.val + 1 ≤ 16; omega
  · show 0 + 2048 ≤ 2048; omega
  · show 0 + 128 ≤ 128; omega
theorem inb_cell (s : Fin 2) : ∀ a, (![s.val] : Fin 1 → ℕ) a + S1.size a ≤ S2.size a := by
  have := s.isLt
  intro a; fin_cases a
  show s.val + 1 ≤ 2; omega

abbrev slot (M : Memref sig .tc .vmem S2x2048x128 .f32) (s : Fin 2) : Memref sig .tc .vmem S2048x128 .f32 :=
  (M.slice (Rect.unit (s := S2x2048x128) ![s.val, 0, 0] S1x2048x128.size (inb_slot s)) (fun _ => rfl)).squeeze S2048x128 squeezes_S1x2048x128_S2048x128
abbrev blk (M : Memref sig .tc .hbm S16x2048x128 .f32) (b : Fin 16) : Memref sig .tc .hbm S2048x128 .f32 :=
  (M.slice (Rect.unit (s := S16x2048x128) ![b.val, 0, 0] S1x2048x128.size (inb_blk b)) (fun _ => rfl)).squeeze S2048x128 squeezes_S1x2048x128_S2048x128
abbrev cell (D : DmaSems sig S2) (s : Fin 2) : SemLoc sig :=
  .dma ((D.slice (Rect.unit (s := S2) ![s.val] S1.size (inb_cell s))).squeeze S_ squeezes_S1_S_).sem

theorem slot_eq (M : Memref sig .tc .vmem S2x2048x128 .f32) {off : Fin 3 → ℕ} (inb) (s : Fin 2) (h : off = ![s.val, 0, 0]) :
    (M.slice (Rect.unit (s := S2x2048x128) off S1x2048x128.size inb) (fun _ => rfl)).squeeze S2048x128 squeezes_S1x2048x128_S2048x128 = slot M s := by
  subst h; rfl
theorem blk_eq (M : Memref sig .tc .hbm S16x2048x128 .f32) {off : Fin 3 → ℕ} (inb) (b : Fin 16) (h : off = ![b.val, 0, 0]) :
    (M.slice (Rect.unit (s := S16x2048x128) off S1x2048x128.size inb) (fun _ => rfl)).squeeze S2048x128 squeezes_S1x2048x128_S2048x128 = blk M b := by
  subst h; rfl
theorem sems_eq (D : DmaSems sig S2) {off : Fin 1 → ℕ} (inb) (s : Fin 2) (h : off = ![s.val]) :
    ((D.slice (Rect.unit (s := S2) off S1.size inb)).squeeze S_ squeezes_S1_S_)
      = (D.slice (Rect.unit (s := S2) ![s.val] S1.size (inb_cell s))).squeeze S_ squeezes_S1_S_ := by
  subst h; rfl

/-- Trip `k`'s slot, the other slot, and the block of the next trip. -/
def par (n : ℕ) : Fin 2 := ⟨n % 2, Nat.mod_lt _ (by decide)⟩
def sl (k : Fin k0_t1_loop.trips) : Fin 2 := par k.val
def sn (k : Fin k0_t1_loop.trips) : Fin 2 := par (k.val + 1)
def bn (k : Fin k0_t1_loop.trips) : Fin 16 := ⟨(k.val + 1) % 16, Nat.mod_lt _ (by decide)⟩

theorem off1_eq (k : Fin k0_t1_loop.trips) : k0_off1 k = ![(sn k).val] := by revert k; decide
theorem off2_eq (k : Fin k0_t1_loop.trips) : k0_off2 k = ![(sn k).val, 0, 0] := by revert k; decide
theorem off3_eq (k : Fin k0_t1_loop.trips) (h : k0_cond1 k = 1#1) : k0_off3 k = ![(bn k).val, 0, 0] := by revert k; decide
theorem off4_eq (k : Fin k0_t1_loop.trips) : k0_off4 k = ![(sl k).val] := by revert k; decide
theorem off5_eq (k : Fin k0_t1_loop.trips) : k0_off5 k = ![(sl k).val, 0, 0] := by revert k; decide
theorem off6_eq (k : Fin k0_t1_loop.trips) : k0_off6 k = ![(sl k).val, 0, 0] := by revert k; decide
theorem off8_eq (k : Fin k0_t1_loop.trips) : k0_off8 k = ![(sl k).val, 0, 0] := by revert k; decide

@[sl_canon] theorem canon1 (D : DmaSems sig S2) (k : Fin k0_t1_loop.trips) (h : k0_cond1 k = 1#1) :
    ((D.slice (Rect.unit (s := S2) (k0_off1 k) S1.size (k0_off1_inb k h))).squeeze S_ squeezes_S1_S_)
      = (D.slice (Rect.unit (s := S2) ![(sn k).val] S1.size (inb_cell (sn k)))).squeeze S_ squeezes_S1_S_ :=
  sems_eq D _ _ (off1_eq k)
@[sl_canon] theorem canon4 (D : DmaSems sig S2) (k : Fin k0_t1_loop.trips) :
    ((D.slice (Rect.unit (s := S2) (k0_off4 k) S1.size (k0_off4_inb k))).squeeze S_ squeezes_S1_S_)
      = (D.slice (Rect.unit (s := S2) ![(sl k).val] S1.size (inb_cell (sl k)))).squeeze S_ squeezes_S1_S_ :=
  sems_eq D _ _ (off4_eq k)
@[sl_canon] theorem canon2 (M : Memref sig .tc .vmem S2x2048x128 .f32) (k : Fin k0_t1_loop.trips) (h : k0_cond1 k = 1#1) :
    (M.slice (Rect.unit (s := S2x2048x128) (k0_off2 k) S1x2048x128.size (k0_off2_inb k h)) (fun _ => rfl)).squeeze S2048x128 squeezes_S1x2048x128_S2048x128 = slot M (sn k) :=
  slot_eq M _ _ (off2_eq k)
@[sl_canon] theorem canon3 (M : Memref sig .tc .hbm S16x2048x128 .f32) (k : Fin k0_t1_loop.trips) (h : k0_cond1 k = 1#1) :
    (M.slice (Rect.unit (s := S16x2048x128) (k0_off3 k) S1x2048x128.size (k0_off3_inb k h)) (fun _ => rfl)).squeeze S2048x128 squeezes_S1x2048x128_S2048x128 = blk M (bn k) :=
  blk_eq M _ _ (off3_eq k h)
@[sl_canon] theorem canon5 (M : Memref sig .tc .vmem S2x2048x128 .f32) (k : Fin k0_t1_loop.trips) :
    (M.slice (Rect.unit (s := S2x2048x128) (k0_off5 k) S1x2048x128.size (k0_off5_inb k)) (fun _ => rfl)).squeeze S2048x128 squeezes_S1x2048x128_S2048x128 = slot M (sl k) :=
  slot_eq M _ _ (off5_eq k)
@[sl_canon] theorem canon6 (M : Memref sig .tc .vmem S2x2048x128 .f32) (k : Fin k0_t1_loop.trips) :
    (M.slice (Rect.unit (s := S2x2048x128) (k0_off6 k) S1x2048x128.size (k0_off6_inb k)) (fun _ => rfl)).squeeze S2048x128 squeezes_S1x2048x128_S2048x128 = slot M (sl k) :=
  slot_eq M _ _ (off6_eq k)

theorem rect_eq {off : Fin 3 → ℕ} (inb) (s : Fin 2) (h : off = ![s.val, 0, 0]) :
    Rect.unit (s := S2x2048x128) off S1x2048x128.size inb = Rect.unit (s := S2x2048x128) ![s.val, 0, 0] S1x2048x128.size (inb_slot s) := by
  subst h; rfl
/-- A load of the whole slot through the two-slot buffer reads the slot's own elements. -/
theorem load_slot (M : Memref sig .tc .vmem S2x2048x128 .f32) (k : Fin k0_t1_loop.trips) :
    LE.le (α := Finset (slot M (sl k)).view.ty.Idx)
      (M.view.setOn (Rect.unit (s := S2x2048x128) (k0_off8 k) S1x2048x128.size (k0_off8_inb k)).toLoadRect.set) (slot M (sl k)).view.set := by
  rw [rect_eq _ _ (off8_eq k)]
  exact (View.set_slice M.view _).symm.le.trans (Memref.set_view_squeeze _ _).symm.le
variable (c : Dev nD) (arg0 : Memref sig .tc .hbm S16x2048x128 .f32) (harg0 : arg0.IsWhole) (arg1 : Memref sig .tc .hbm S16x2048x128 .f32) (harg1 : arg1.IsWhole) (arg2 : Memref sig .tc .vmem S16x8x128 .f32) (harg2 : arg2.IsWhole) (arg3 : Memref sig .tc .vmem S2x2048x128 .f32) (harg3 : arg3.IsWhole) (arg4 : Memref sig .tc .vmem S2x2048x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S2048x128 .f32) (harg7 : arg7.IsWhole) (arg8 : Memref sig .tc .vmem S2048x128 .f32) (harg8 : arg8.IsWhole) (arg9 : DmaSems sig S2) (arg10 : DmaSems sig S2)

/-- A trip of the loop over the targets' slot. -/
def mmTrip (k : Fin k0_t2_loop.trips) (acc : MM F) (M : Memref sig .tc .vmem S2048x128 .f32) : Prog (TpuEff nD τ sig (Elt F) Λ₀ .tc) (MM F) :=
  Prog.lift (.load M (Rect.unit (s := S2048x128) (k0_off7 k) S64x128.size (k0_off7_inb k)).toLoadRect (View.loadsAt_vmem h_S64x128))
    >>= fun v => pure (mmStep acc v)

set_option warn.classDefReducibility false in
/-- Minimum and maximum of the targets landed in the slot. -/
@[sl_loop] def loop_t2 (i : Fin k0_t1_loop.trips) (init : MM F) (X : BufTy.Contents (Elt F) (slot arg3 (sl i)).view.ty) :
    LoopInvTy_k0_t2 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 0#32 1#32 i init :=
  foldLoop c k0_t2_ok k0_t2_abs.2.1 (slot arg3 (sl i)) k0_off7 k0_off7_inb (by decide) mmStep init _
    (fun k acc => congrArg (mmTrip k acc) (canon6 arg3 i)) X

/-- The payload of the transfer of block `b`. -/
abbrev payB {c : Dev nD} (M : Memref sig .tc .hbm S16x2048x128 .f32) (X : Buf (Elt F) (M.view.loc (c : Thread nD τ))) (b : Fin 16) :
    S2048x128.Idx → Elt F .f32 :=
  ReadAs.same.apply ((blk M b).view.read (Elt F) X)

/-- A slot with no transfer under way. -/
def Free (c : Dev nD) (cl : SemLoc sig) (dst : Memref sig .tc .vmem S2048x128 .f32) (M : Memref sig .tc .hbm S16x2048x128 .f32)
    (q : PosShare TreeShare) (X : Buf (Elt F) (M.view.loc (c : Thread nD τ))) : sProp 𝕄 :=
  iprop(semVal ((c : Thread nD τ), cl) 0 ∗ (∃ f, dst.view.loc (c : Thread nD τ) ↦[dst.view.set]{fullShare} f)
    ∗ (M.view.loc (c : Thread nD τ) ↦{q} X))

/-- A slot with block `b` under way to it. -/
def Fly (c : Dev nD) (cl : SemLoc sig) (dst : Memref sig .tc .vmem S2048x128 .f32) (M : Memref sig .tc .hbm S16x2048x128 .f32)
    (q : PosShare TreeShare) (X : Buf (Elt F) (M.view.loc (c : Thread nD τ))) (b : Fin 16) : sProp 𝕄 :=
  iprop((∃ f, Transfers.Flight (countersEmb (U := Pipeline.UD sig nD τ)) (c : Thread nD τ) cl () 32768
      iprop((dst.view.loc (c : Thread nD τ) ↦[dst.view.set]{fullShare} dst.view.writes (Elt F) f [⟨Rect.whole S2048x128, payB M X b⟩])
        ∗ (M.view.loc (c : Thread nD τ) ↦[(blk M b).view.set]{q} X)))
    ∗ (M.view.loc (c : Thread nD τ) ↦[Finset.univ \ (blk M b).view.set]{q} X))

/-- A slot holding block `b`, its transfer waited for. -/
def Held (c : Dev nD) (cl : SemLoc sig) (dst : Memref sig .tc .vmem S2048x128 .f32) (M : Memref sig .tc .hbm S16x2048x128 .f32)
    (q : PosShare TreeShare) (X : Buf (Elt F) (M.view.loc (c : Thread nD τ))) (b : Fin 16) : sProp 𝕄 :=
  iprop(semVal ((c : Thread nD τ), cl) 0
    ∗ (∃ f, dst.view.loc (c : Thread nD τ) ↦[dst.view.set]{fullShare} dst.view.writes (Elt F) f [⟨Rect.whole S2048x128, payB M X b⟩])
    ∗ (M.view.loc (c : Thread nD τ) ↦{q} X))

/-- A slot before trip `n`, which reads it: block `n` is under way to it, or all sixteen trips are over. -/
def Next (c : Dev nD) (cl : SemLoc sig) (dst : Memref sig .tc .vmem S2048x128 .f32) (M : Memref sig .tc .hbm S16x2048x128 .f32)
    (q : PosShare TreeShare) (X : Buf (Elt F) (M.view.loc (c : Thread nD τ))) (n : ℕ) : sProp 𝕄 :=
  if h : n < 16 then Fly c cl dst M q X ⟨n, h⟩ else Free c cl dst M q X

/-! ## The first part of a trip -/

/-- Minimum and maximum of a batch entry, per sublane and lane. -/
def mmOf (T : S2048x128.Idx → F .f32) : MM F := foldN mmStep T (k0_pay2, k0_pay3) 32
/-- The minimum of a batch entry. -/
def tmin (T : S2048x128.Idx → F .f32) : F .f32 := k0_pay7 (mmOf T).1
/-- The range of a batch entry. -/
def tden (T : S2048x128.Idx → F .f32) : F .f32 := k0_pay8 (mmOf T).1 (mmOf T).2

theorem read_slot (M : Memref sig .tc .vmem S2048x128 .f32) (f : BufTy.Contents (Elt F) M.view.ty) (w : S2048x128.Idx → Elt F .f32) :
    M.view.read (Elt F) (M.view.writes (Elt F) f [⟨Rect.whole S2048x128, w⟩]) = w :=
  View.read_writes_whole M.view f w

theorem trips_t2 : Scf.trips k0_t2_loop.lb k0_t2_loop.ub k0_t2_loop.st = 32 := by decide

theorem cond1_iff (k : Fin k0_t1_loop.trips) : k0_cond1 k = 1#1 ↔ k.val + 1 < 16 := by revert k; decide

theorem part1_run (k : Fin k0_t1_loop.trips) (b : Fin 16) (q q' : PosShare TreeShare) (W : Waits sig Unit)
    (X1 : Buf (Elt F) (arg1.view.loc (c : Thread nD τ))) (X0 : Buf (Elt F) (arg0.view.loc (c : Thread nD τ))) (Q) (R : sProp 𝕄)
    (hQ : ∀ a11 v13, iprop(Held c (cell arg9 (sl k)) (slot arg3 (sl k)) arg1 q X1 b ∗ Held c (cell arg10 (sl k)) (slot arg4 (sl k)) arg0 q X0 b
       ∗ Next c (cell arg9 (sn k)) (slot arg3 (sn k)) arg1 q' X1 (k.val + 1)
       ∗ Next c (cell arg10 (sn k)) (slot arg4 (sn k)) arg0 q' X0 (k.val + 1)
       ∗ (∃ W', owes (c : Thread nD τ) 0 W') ∗ R) ⊢ Q ⟨a11, v13, tmin (payB arg1 X1 b), tden (payB arg1 X1 b)⟩) :
   iprop(Fly c (cell arg9 (sl k)) (slot arg3 (sl k)) arg1 q X1 b ∗ Fly c (cell arg10 (sl k)) (slot arg4 (sl k)) arg0 q X0 b
       ∗ Free c (cell arg9 (sn k)) (slot arg3 (sn k)) arg1 q' X1 ∗ Free c (cell arg10 (sn k)) (slot arg4 (sn k)) arg0 q' X0
       ∗ owes (c : Thread nD τ) 0 W ∗ R)
    ⊢ wp frame (wpE (defs₀ (F := F)) Variants.none (c : Thread nD τ) none) Set.univ
        (k0_part1 arg0 harg0 arg1 harg1 arg2 harg2 arg3 harg3 arg4 harg4 arg5 harg5 arg6 harg6 arg7 harg7 arg8 harg8 arg9 arg10 0#32 1#32 k) Q := by
  rw [Cert.KernelIdeal.k0_part1_eq_skeleton]
  unfold k0_part1_skel
  by_cases h : k0_cond1 k = 1#1
  · have hk : k.val + 1 < 16 := (cond1_iff k).1 h
    have hb : (⟨k.val + 1, hk⟩ : Fin 16) = bn k := Fin.ext (Nat.mod_eq_of_lt hk).symm
    unfold Next at hQ
    simp only [dif_pos hk, hb] at hQ
    unfold Held Fly at hQ
    unfold Free Fly
    iintro ⟨⟨⟨%f9, H9⟩, H1⟩, ⟨⟨%f10, H10⟩, H0⟩, ⟨H9', ⟨%f3', H3'⟩, H1'⟩, ⟨H10', ⟨%f4', H4'⟩, H0'⟩, HW, HR⟩
    sl_exec
    rw [read_slot, trips_t2]
    sl_step
    unfold tmin tden mmOf at hQ
    iapply (hQ _ _)
    isplitl [H9 H9_dst H1]
    · isplitl [H9]; · iexact H9
      isplitl [H9_dst]; · iexists _; iexact H9_dst
      iexact H1
    isplitl [H10 H10_dst H0]
    · isplitl [H10]; · iexact H10
      isplitl [H10_dst]; · iexists _; iexact H10_dst
      iexact H0
    isplitl [H9' H1']
    · isplitl [H9']; · iexists _; iexact H9'
      iexact H1'
    isplitl [H10' H0']
    · isplitl [H10']; · iexists _; iexact H10'
      iexact H0'
    isplitl [HW]; · iexists _; iexact HW
    iexact HR
  · have hk : ¬ k.val + 1 < 16 := fun hk => h ((cond1_iff k).2 hk)
    unfold Next at hQ
    simp only [dif_neg hk] at hQ
    unfold Held at hQ
    unfold Fly
    iintro ⟨⟨⟨%f9, H9⟩, H1⟩, ⟨⟨%f10, H10⟩, H0⟩, H1', H0', HW, HR⟩
    sl_exec
    rw [read_slot, trips_t2]
    sl_step
    unfold tmin tden mmOf at hQ
    iapply (hQ _ _)
    isplitl [H9 H9_dst H1]
    · isplitl [H9]; · iexact H9
      isplitl [H9_dst]; · iexists _; iexact H9_dst
      iexact H1
    isplitl [H10 H10_dst H0]
    · isplitl [H10]; · iexact H10
      isplitl [H10_dst]; · iexists _; iexact H10_dst
      iexact H0
    isplitl [H1']; · iexact H1'
    isplitl [H0']; · iexact H0'
    isplitl [HW]; · iexists _; iexact HW
    iexact HR

end Cert.Proof.KernelIdeal

end
-- ==== Proof.KernelIdealTrip.lean ====
/-
  One trip of the loop over the batch, run from start to end.

  After the first part (`part1_run`) a trip normalises both entries into two scratch buffers, fills the two 64-bin
  histograms row by row with the sums of the sixteen loops, and stores one number to the entry's row of the result.
-/
module

public import proofs.«01_k».proof.Proof.KernelIdealSlots

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) (arg0 : Memref sig .tc .hbm S16x2048x128 .f32) (harg0 : arg0.IsWhole) (arg1 : Memref sig .tc .hbm S16x2048x128 .f32) (harg1 : arg1.IsWhole) (arg2 : Memref sig .tc .vmem S16x8x128 .f32) (harg2 : arg2.IsWhole) (arg3 : Memref sig .tc .vmem S2x2048x128 .f32) (harg3 : arg3.IsWhole) (arg4 : Memref sig .tc .vmem S2x2048x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S2048x128 .f32) (harg7 : arg7.IsWhole) (arg8 : Memref sig .tc .vmem S2048x128 .f32) (harg8 : arg8.IsWhole) (arg9 : DmaSems sig S2) (arg10 : DmaSems sig S2)

/-- A buffer held at some contents is owned at what it reads. -/
theorem any_owns {s : Shape} (M : Memref sig .tc .vmem s .f32) (f : BufTy.Contents (Elt F) M.view.ty) :
    (M.view.loc (c : Thread nD τ) ↦[M.view.set]{fullShare} f : sProp 𝕄) ⊢ iprop(∃ d, owns (c : Thread nD τ) M fullShare d) := by
  unfold owns
  iintro H
  iexists _, f
  isplitr
  · ipureintro; rfl
  · iexact H

/-- A slot whose block has been read is free again. -/
theorem held_free (cl : SemLoc sig) (dst : Memref sig .tc .vmem S2048x128 .f32) (M : Memref sig .tc .hbm S16x2048x128 .f32)
    (q : PosShare TreeShare) (X : Buf (Elt F) (M.view.loc (c : Thread nD τ))) (b : Fin 16) :
    (Held c cl dst M q X b : sProp 𝕄) ⊢ Free c cl dst M q X := by
  unfold Held Free
  iintro ⟨H, ⟨%f, H'⟩, HM⟩
  isplitl [H]; · iexact H
  isplitl [H']; · iexists _; iexact H'
  iexact HM

set_option maxHeartbeats 2000000 in
/-- Trip `k`, on the two entries under way to its slots. The first component is the row it stores. -/
def trip (k : Fin k0_t1_loop.trips) (b : Fin 16)
    (X1 : Buf (Elt F) (arg1.view.loc (c : Thread nD τ))) (X0 : Buf (Elt F) (arg0.view.loc (c : Thread nD τ))) :
    { v : FVec F S1x8x128 .f32 // ∀ (q q' : PosShare TreeShare) (W : Waits sig Unit) (f2 : Buf (Elt F) (arg2.view.loc (c : Thread nD τ))) (L)
        (K : Unit → sProp 𝕄),
      (iprop(Held c (cell arg9 (sl k)) (slot arg3 (sl k)) arg1 q X1 b ∗ Held c (cell arg10 (sl k)) (slot arg4 (sl k)) arg0 q X0 b
       ∗ Next c (cell arg9 (sn k)) (slot arg3 (sn k)) arg1 q' X1 (k.val + 1)
       ∗ Next c (cell arg10 (sn k)) (slot arg4 (sn k)) arg0 q' X0 (k.val + 1)
       ∗ (arg2.view.loc (c : Thread nD τ) ↦[arg2.view.set]{fullShare} arg2.view.writes (Elt F) f2
            (⟨Rect.unit (s := S16x8x128) (k0_off25 k) S1x8x128.size (k0_off25_inb k), v⟩ :: L))
       ∗ (∃ d, owns (c : Thread nD τ) arg5 fullShare d) ∗ (∃ d, owns (c : Thread nD τ) arg6 fullShare d)
       ∗ (∃ d, owns (c : Thread nD τ) arg7 fullShare d) ∗ (∃ d, owns (c : Thread nD τ) arg8 fullShare d)
       ∗ (∃ W', owes (c : Thread nD τ) 0 W')) ⊢ K ()) →
      (iprop(Fly c (cell arg9 (sl k)) (slot arg3 (sl k)) arg1 q X1 b ∗ Fly c (cell arg10 (sl k)) (slot arg4 (sl k)) arg0 q X0 b
       ∗ Free c (cell arg9 (sn k)) (slot arg3 (sn k)) arg1 q' X1 ∗ Free c (cell arg10 (sn k)) (slot arg4 (sn k)) arg0 q' X0
       ∗ owes (c : Thread nD τ) 0 W
       ∗ (arg2.view.loc (c : Thread nD τ) ↦[arg2.view.set]{fullShare} arg2.view.writes (Elt F) f2 L)
       ∗ (∃ d, owns (c : Thread nD τ) arg5 fullShare d) ∗ (∃ d, owns (c : Thread nD τ) arg6 fullShare d)
       ∗ (∃ d, owns (c : Thread nD τ) arg7 fullShare d) ∗ (∃ d, owns (c : Thread nD τ) arg8 fullShare d))
      ⊢ wp frame (wpE (defs₀ (F := F)) Variants.none (c : Thread nD τ) none) Set.univ
          (k0_t1_body arg0 harg0 arg1 harg1 arg2 harg2 arg3 harg3 arg4 harg4 arg5 harg5 arg6 harg6 arg7 harg7 arg8 harg8 arg9 arg10 k ()) K) } := by
  refine ⟨?_, fun q q' W f2 L K hK => ?run⟩
  case run =>
  unfold k0_t1_body
  rw [wp_bind, Cert.KernelIdeal.Gen.k0_part31_eq_skeleton]
  unfold k0_part31_skel
  rw [wp_bind]
  refine part1_run c arg0 harg0 arg1 harg1 arg2 harg2 arg3 harg3 arg4 harg4 arg5 harg5 arg6 harg6 arg7 harg7 arg8 harg8 arg9 arg10
    k b q q' W X1 X0 _ _ fun a11 v13 => ?_
  unfold Held owns
  unfold Held at hK
  iintro ⟨⟨H9, ⟨%f3, H3⟩, H1⟩, ⟨H10, ⟨%f4, H4⟩, H0⟩, HN1, HN0, ⟨%W', HW⟩, H2, ⟨%d5, %f5, -, H5⟩, ⟨%d6, %f6, -, H6⟩, ⟨%d7, %f7, -, H7⟩, ⟨%d8, %f8, -, H8⟩⟩
  have hl3 := load_slot arg3 k
  have hl4 := load_slot arg4 k
  sl_exec_parts
  sl_step
  iapply hK
  isplitl [H9 H3 H1]
  · isplitl [H9]; · iexact H9
    isplitl [H3]; · iexists _; iexact H3
    iexact H1
  isplitl [H10 H4 H0]
  · isplitl [H10]; · iexact H10
    isplitl [H4]; · iexists _; iexact H4
    iexact H0
  isplitl [HN1]; · iexact HN1
  isplitl [HN0]; · iexact HN0
  isplitl [H2]; · iexact H2
  isplitl [H5]; · iapply (any_owns c arg5); iexact H5
  isplitl [H6]; · iapply (any_owns c arg6); iexact H6
  isplitl [H7]; · iapply (any_owns c arg7); iexact H7
  isplitl [H8]; · iapply (any_owns c arg8); iexact H8
  iexists _
  iexact HW

end Cert.Proof.KernelIdeal

end
-- ==== Proof.KernelIdealRun.lean ====
/-
  The loop over the batch and the whole kernel body, from four free slots to four free slots.
-/
module

public import proofs.«01_k».proof.Proof.KernelIdealTrip

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (c : Dev nD) (arg0 : Memref sig .tc .hbm S16x2048x128 .f32) (harg0 : arg0.IsWhole) (arg1 : Memref sig .tc .hbm S16x2048x128 .f32) (harg1 : arg1.IsWhole) (arg2 : Memref sig .tc .vmem S16x8x128 .f32) (harg2 : arg2.IsWhole) (arg3 : Memref sig .tc .vmem S2x2048x128 .f32) (harg3 : arg3.IsWhole) (arg4 : Memref sig .tc .vmem S2x2048x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S2048x128 .f32) (harg7 : arg7.IsWhole) (arg8 : Memref sig .tc .vmem S2048x128 .f32) (harg8 : arg8.IsWhole) (arg9 : DmaSems sig S2) (arg10 : DmaSems sig S2)

/-- The rows stored before trip `n`, newest first. -/
def rows (X1 : Buf (Elt F) (arg1.view.loc (c : Thread nD τ))) (X0 : Buf (Elt F) (arg0.view.loc (c : Thread nD τ))) :
    ℕ → List (View.Piece (Elt F) S16x8x128 .f32)
  | 0 => []
  | n + 1 => if h : n < k0_t1_loop.trips then
      ⟨Rect.unit (s := S16x8x128) (k0_off25 ⟨n, h⟩) S1x8x128.size (k0_off25_inb ⟨n, h⟩),
        (trip c arg0 harg0 arg1 harg1 arg2 harg2 arg3 harg3 arg4 harg4 arg5 harg5 arg6 harg6 arg7 harg7 arg8 harg8 arg9 arg10 ⟨n, h⟩ ⟨n, h⟩ X1 X0).1⟩ :: rows X1 X0 n
    else rows X1 X0 n

theorem rows_succ (X1 : Buf (Elt F) (arg1.view.loc (c : Thread nD τ))) (X0 : Buf (Elt F) (arg0.view.loc (c : Thread nD τ)))
    (k : Fin k0_t1_loop.trips) :
    rows c arg0 harg0 arg1 harg1 arg2 harg2 arg3 harg3 arg4 harg4 arg5 harg5 arg6 harg6 arg7 harg7 arg8 harg8 arg9 arg10 X1 X0 (k.val + 1)
      = ⟨Rect.unit (s := S16x8x128) (k0_off25 k) S1x8x128.size (k0_off25_inb k), (trip c arg0 harg0 arg1 harg1 arg2 harg2 arg3 harg3 arg4 harg4 arg5 harg5 arg6 harg6 arg7 harg7 arg8 harg8 arg9 arg10 k k X1 X0).1⟩
        :: rows c arg0 harg0 arg1 harg1 arg2 harg2 arg3 harg3 arg4 harg4 arg5 harg5 arg6 harg6 arg7 harg7 arg8 harg8 arg9 arg10 X1 X0 k.val := dif_pos k.isLt

theorem par_two (n : ℕ) : par (n + 1 + 1) = par n := Fin.ext (Nat.add_mod_right n 2)

set_option warn.classDefReducibility false in
/-- Before trip `k`: entry `k` is under way to its slots, the other slots are free, and rows `0 … k - 1` are stored. -/
@[sl_loop] def loop_t1 (qs : Fin 2 → PosShare TreeShare) (X1 : Buf (Elt F) (arg1.view.loc (c : Thread nD τ)))
    (X0 : Buf (Elt F) (arg0.view.loc (c : Thread nD τ))) (f2 : Buf (Elt F) (arg2.view.loc (c : Thread nD τ))) :
    LoopInvTy_k0_t1 (F := F) Unit ℕ (Pipeline.UD sig nD τ) ℕ Variants.none c none Set.univ arg0 harg0 arg1 harg1 arg2 harg2 arg3 harg3 arg4 harg4 arg5 harg5 arg6 harg6 arg7 harg7 arg8 harg8 arg9 arg10 where
  inv n _ := iprop(Next c (cell arg9 (par n)) (slot arg3 (par n)) arg1 (qs (par n)) X1 n
    ∗ Next c (cell arg10 (par n)) (slot arg4 (par n)) arg0 (qs (par n)) X0 n
    ∗ Free c (cell arg9 (par (n + 1))) (slot arg3 (par (n + 1))) arg1 (qs (par (n + 1))) X1
    ∗ Free c (cell arg10 (par (n + 1))) (slot arg4 (par (n + 1))) arg0 (qs (par (n + 1))) X0
    ∗ (∃ W, owes (c : Thread nD τ) 0 W)
    ∗ (arg2.view.loc (c : Thread nD τ) ↦[arg2.view.set]{fullShare} arg2.view.writes (Elt F) f2 (rows c arg0 harg0 arg1 harg1 arg2 harg2 arg3 harg3 arg4 harg4 arg5 harg5 arg6 harg6 arg7 harg7 arg8 harg8 arg9 arg10 X1 X0 n))
    ∗ (∃ d, owns (c : Thread nD τ) arg5 fullShare d) ∗ (∃ d, owns (c : Thread nD τ) arg6 fullShare d)
    ∗ (∃ d, owns (c : Thread nD τ) arg7 fullShare d) ∗ (∃ d, owns (c : Thread nD τ) arg8 fullShare d))
  step k acc := by
    have hk : k.val < 16 := k.isLt
    have hN : ∀ {cl dst} {M : Memref sig .tc .hbm S16x2048x128 .f32} {q} {X : Buf (Elt F) (M.view.loc (c : Thread nD τ))},
        (Next c cl dst M q X k.val : sProp 𝕄) = Fly c cl dst M q X k := dif_pos hk
    rw [hN, hN]
    iintro ⟨H9, H10, H9', H10', ⟨%W, HW⟩, H2, H5, H6, H7, H8⟩
    iapply ((trip c arg0 harg0 arg1 harg1 arg2 harg2 arg3 harg3 arg4 harg4 arg5 harg5 arg6 harg6 arg7 harg7 arg8 harg8 arg9 arg10 k k X1 X0).2 (qs (par k.val)) (qs (par (k.val + 1))) W f2 (rows c arg0 harg0 arg1 harg1 arg2 harg2 arg3 harg3 arg4 harg4 arg5 harg5 arg6 harg6 arg7 harg7 arg8 harg8 arg9 arg10 X1 X0 k.val) _ ?_)
    case _ =>
      rw [rows_succ, par_two]
      iintro ⟨H9, H10, H9', H10', H2, H5, H6, H7, H8, HW⟩
      isplitl [H9']; · iexact H9'
      isplitl [H10']; · iexact H10'
      isplitl [H9]; · iapply (held_free c (cell arg9 (sl k)) (slot arg3 (sl k)) arg1 (qs (par k.val)) X1 k); iexact H9
      isplitl [H10]; · iapply (held_free c (cell arg10 (sl k)) (slot arg4 (sl k)) arg0 (qs (par k.val)) X0 k); iexact H10
      isplitl [HW]; · iexact HW
      isplitl [H2]; · iexact H2
      isplitl [H5]; · iexact H5
      isplitl [H6]; · iexact H6
      isplitl [H7]; · iexact H7
      iexact H8
    isplitl [H9]; · iexact H9
    isplitl [H10]; · iexact H10
    isplitl [H9']; · iexact H9'
    isplitl [H10']; · iexact H10'
    isplitl [HW]; · iexact HW
    isplitl [H2]; · iexact H2
    isplitl [H5]; · iexact H5
    isplitl [H6]; · iexact H6
    isplitl [H7]; · iexact H7
    iexact H8

theorem trips_t1 : Scf.trips k0_t1_loop.lb k0_t1_loop.ub k0_t1_loop.st = 16 := by decide

variable (qs : Fin 2 → PosShare TreeShare) (X1 : Buf (Elt F) (arg1.view.loc (c : Thread nD τ)))
    (X0 : Buf (Elt F) (arg0.view.loc (c : Thread nD τ))) (f2 : Buf (Elt F) (arg2.view.loc (c : Thread nD τ)))

theorem next_zero {cl dst} {M : Memref sig .tc .hbm S16x2048x128 .f32} {q} {X : Buf (Elt F) (M.view.loc (c : Thread nD τ))} :
    (Next c cl dst M q X 0 : sProp 𝕄) = Fly c cl dst M q X 0 := dif_pos (by decide)
theorem next_end {cl dst} {M : Memref sig .tc .hbm S16x2048x128 .f32} {q} {X : Buf (Elt F) (M.view.loc (c : Thread nD τ))} :
    (Next c cl dst M q X 16 : sProp 𝕄) = Free c cl dst M q X := dif_neg (by decide)

/-- The invariant before the first trip. -/
theorem inv_start : iprop(Fly c (cell arg9 0) (slot arg3 0) arg1 (qs 0) X1 0 ∗ Fly c (cell arg10 0) (slot arg4 0) arg0 (qs 0) X0 0
      ∗ Free c (cell arg9 1) (slot arg3 1) arg1 (qs 1) X1 ∗ Free c (cell arg10 1) (slot arg4 1) arg0 (qs 1) X0
      ∗ (∃ W, owes (c : Thread nD τ) 0 W) ∗ (arg2.view.loc (c : Thread nD τ) ↦[arg2.view.set]{fullShare} f2)
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d))
    ⊢ (loop_t1 c arg0 harg0 arg1 harg1 arg2 harg2 arg3 harg3 arg4 harg4 arg5 harg5 arg6 harg6 arg7 harg7 arg8 harg8 arg9 arg10 qs X1 X0 f2).inv 0 () := by
  rw [← next_zero, ← next_zero]
  exact .rfl

/-- The invariant after the last trip. -/
theorem inv_end (acc : Unit) : (loop_t1 c arg0 harg0 arg1 harg1 arg2 harg2 arg3 harg3 arg4 harg4 arg5 harg5 arg6 harg6 arg7 harg7 arg8 harg8 arg9 arg10 qs X1 X0 f2).inv (Scf.trips k0_t1_loop.lb k0_t1_loop.ub k0_t1_loop.st) acc
    ⊢ iprop(Free c (cell arg9 0) (slot arg3 0) arg1 (qs 0) X1 ∗ Free c (cell arg10 0) (slot arg4 0) arg0 (qs 0) X0
      ∗ Free c (cell arg9 1) (slot arg3 1) arg1 (qs 1) X1 ∗ Free c (cell arg10 1) (slot arg4 1) arg0 (qs 1) X0
      ∗ (∃ W, owes (c : Thread nD τ) 0 W)
      ∗ (arg2.view.loc (c : Thread nD τ) ↦[arg2.view.set]{fullShare} arg2.view.writes (Elt F) f2 (rows c arg0 harg0 arg1 harg1 arg2 harg2 arg3 harg3 arg4 harg4 arg5 harg5 arg6 harg6 arg7 harg7 arg8 harg8 arg9 arg10 X1 X0 16))
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d)) := by
  rw [trips_t1, ← next_end (dst := slot arg3 0), ← next_end (dst := slot arg4 0)]
  exact .rfl

/-- The kernel body: sixteen rows stored, everything else as found, `R` kept beside. -/
theorem body_run (W : Waits sig Unit) (K : PUnit → sProp 𝕄) (R : sProp 𝕄)
    (hK : iprop(R ∗ Free c (cell arg9 0) (slot arg3 0) arg1 (qs 0) X1 ∗ Free c (cell arg10 0) (slot arg4 0) arg0 (qs 0) X0
      ∗ Free c (cell arg9 1) (slot arg3 1) arg1 (qs 1) X1 ∗ Free c (cell arg10 1) (slot arg4 1) arg0 (qs 1) X0
      ∗ (∃ W, owes (c : Thread nD τ) 0 W)
      ∗ (arg2.view.loc (c : Thread nD τ) ↦[arg2.view.set]{fullShare} arg2.view.writes (Elt F) f2 (rows c arg0 harg0 arg1 harg1 arg2 harg2 arg3 harg3 arg4 harg4 arg5 harg5 arg6 harg6 arg7 harg7 arg8 harg8 arg9 arg10 X1 X0 16))
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d)) ⊢ K ⟨⟩) :
    iprop(R ∗ Free c (cell arg9 0) (slot arg3 0) arg1 (qs 0) X1 ∗ Free c (cell arg10 0) (slot arg4 0) arg0 (qs 0) X0
      ∗ Free c (cell arg9 1) (slot arg3 1) arg1 (qs 1) X1 ∗ Free c (cell arg10 1) (slot arg4 1) arg0 (qs 1) X0
      ∗ owes (c : Thread nD τ) 0 W
      ∗ (arg2.view.loc (c : Thread nD τ) ↦[arg2.view.set]{fullShare} f2)
      ∗ (∃ d, owns (c : Thread nD τ) arg5 fullShare d) ∗ (∃ d, owns (c : Thread nD τ) arg6 fullShare d)
      ∗ (∃ d, owns (c : Thread nD τ) arg7 fullShare d) ∗ (∃ d, owns (c : Thread nD τ) arg8 fullShare d))
    ⊢ wp frame (wpE (defs₀ (F := F)) Variants.none (c : Thread nD τ) none) Set.univ
        (cc0_kl_soft_hist arg0 harg0 arg1 harg1 arg2 harg2 arg3 harg3 arg4 harg4 arg5 harg5 arg6 harg6 arg7 harg7 arg8 harg8 arg9 arg10) K := by
  rw [cc0_kl_soft_hist_eq_skeleton]
  unfold cc0_kl_soft_hist_skel
  unfold Free
  iintro ⟨HR, ⟨H9, ⟨%f3, H3⟩, H1⟩, ⟨H10, ⟨%f4, H4⟩, H0⟩, ⟨H9', ⟨%f3', H3'⟩, H1'⟩, ⟨H10', ⟨%f4', H4'⟩, H0'⟩, HW, H2, H5, H6, H7, H8⟩
  sl_exec
  iapply (exec_loop frame (wpE (defs₀ (F := F)) Variants.none (c : Thread nD τ) none) Set.univ _ _ _ k0_t1_ok _ _
    (loop_t1 c arg0 harg0 arg1 harg1 arg2 harg2 arg3 harg3 arg4 harg4 arg5 harg5 arg6 harg6 arg7 harg7 arg8 harg8 arg9 arg10 qs X1 X0 f2)) $$ [H9 H1 H10 H0 H9' H3' H1' H10' H4' H0' HW H2 H5 H6 H7 H8]
  · iapply (inv_start c arg0 harg0 arg1 harg1 arg2 harg2 arg3 harg3 arg4 harg4 arg5 harg5 arg6 harg6 arg7 harg7 arg8 harg8 arg9 arg10 qs X1 X0 f2)
    unfold Fly Free
    isplitl [H9 H1]
    · isplitl [H9]; · iexists _; iexact H9
      iexact H1
    isplitl [H10 H0]
    · isplitl [H10]; · iexists _; iexact H10
      iexact H0
    isplitl [H9' H3' H1']
    · isplitl [H9']; · iexact H9'
      isplitl [H3']; · iexists _; iexact H3'
      iexact H1'
    isplitl [H10' H4' H0']
    · isplitl [H10']; · iexact H10'
      isplitl [H4']; · iexists _; iexact H4'
      iexact H0'
    isplitl [HW]; · iexists _; iexact HW
    isplitl [H2]; · iexact H2
    isplitl [H5]; · iexact H5
    isplitl [H6]; · iexact H6
    isplitl [H7]; · iexact H7
    iexact H8
  · iintro %acc HI
    sl_step
    iapply hK
    isplitl [HR]; · iexact HR
    iapply (inv_end c arg0 harg0 arg1 harg1 arg2 harg2 arg3 harg3 arg4 harg4 arg5 harg5 arg6 harg6 arg7 harg7 arg8 harg8 arg9 arg10 qs X1 X0 f2 acc)
    iexact HI

end Cert.Proof.KernelIdeal

end
-- ==== Proof.KernelIdealFrame.lean ====
/-
  The frame run of the whole program: @main's reshapes, the kernel's one region at `body_run`, @main's closing lines. Every
  argument ends as it started, every semaphore counter at zero, and the region's result array at the stored rows.
-/
module

public import proofs.«01_k».proof.Proof.KernelIdealRun
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## @main around the region -/

theorem main_around (𝒱₀ : Variants) : Pipeline.HMainK (Ix := Unit) (Name := ℕ) (U := Pipeline.UD sig nD τ) (Lvl := ℕ) cfgs 0 defs₀ 𝒱₀ m
      (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-! ## The body's operands -/

abbrev ms (t : Fin cfg0.N) : Memref sig .tc .vmem S16x8x128 .f32 := win0_0.stage (cfg0.slots t 0)
/-- The staged inputs' two-slot buffers. -/
abbrev ringT : Memref sig .tc .vmem S2x2048x128 .f32 := Memref.whole cc0_scratch0
abbrev ringP : Memref sig .tc .vmem S2x2048x128 .f32 := Memref.whole cc0_scratch1
/-- The histograms and the normalised entries. -/
abbrev histP : Memref sig .tc .vmem S64x128 .f32 := Memref.whole cc0_scratch2
abbrev histT : Memref sig .tc .vmem S64x128 .f32 := Memref.whole cc0_scratch3
abbrev normT : Memref sig .tc .vmem S2048x128 .f32 := Memref.whole cc0_scratch4
abbrev normP : Memref sig .tc .vmem S2048x128 .f32 := Memref.whole cc0_scratch5
/-- The predictions and the targets, left in HBM. -/
abbrev srcP : Memref sig .tc .hbm S16x2048x128 .f32 := Memref.whole main_v0
abbrev srcT : Memref sig .tc .hbm S16x2048x128 .f32 := Memref.whole main_v1

/-- The four cells: two of the targets', two of the predictions'. -/
abbrev cells : Fin 4 → SemLoc sig := fun j =>
  (![cell cc0_scratch6 0, cell cc0_scratch6 1, cell cc0_scratch7 0, cell cc0_scratch7 1] : Fin 4 → SemLoc sig) j
theorem cells_own : Pipeline.OwnSemFacts spec0 cells := by decide
theorem cells_eq (c : Dev nD) :
    (Pipeline.ownSems0 (Ix := Unit) (Name := ℕ) (U := Pipeline.UD sig nD τ) (Lvl := ℕ) (Val := Elt F) (τ := τ) cells c : sProp 𝕄)
      = iprop(semVal ((c : Thread nD τ), cell cc0_scratch6 0) 0 ∗ semVal ((c : Thread nD τ), cell cc0_scratch6 1) 0
          ∗ semVal ((c : Thread nD τ), cell cc0_scratch7 0) 0 ∗ semVal ((c : Thread nD τ), cell cc0_scratch7 1) 0) := by
  rw [Pipeline.ownSems0_eq_of_list c cells [0, 1, 2, 3] (by decide) (by decide)]; rfl

/-- The arrays the kernel's own transfers read. -/
def reads : Finset (Ref sig .tc) := {main_v0, main_v1}
theorem reads_sub : reads ⊆ Pipeline.restRefs sig spec0 := by decide
theorem reads_eq (c : Dev nD) :
    (bigSep reads (fun b => ((c : Thread nD τ).loc b) ↦{fullShare} V m c b) : sProp 𝕄)
      = iprop((srcP.view.loc (c : Thread nD τ) ↦{fullShare} V m c main_v0) ∗ (srcT.view.loc (c : Thread nD τ) ↦{fullShare} V m c main_v1)) := by
  rw [BI.bigSep_eq_bigSepL_of_eq [main_v0, main_v1] (by decide) (by decide)]; rfl

theorem inv_eq (c : Dev nD) :
    (Pipeline.ΦD cells spec0 reads (V m) c : sProp 𝕄)
      = iprop(iprop((∃ f, ringT.view.loc (c : Thread nD τ) ↦{fullShare} f) ∗ (∃ f, ringP.view.loc (c : Thread nD τ) ↦{fullShare} f)
                ∗ (∃ d, owns (c : Thread nD τ) histP fullShare d) ∗ (∃ d, owns (c : Thread nD τ) histT fullShare d)
                ∗ (∃ d, owns (c : Thread nD τ) normT fullShare d) ∗ (∃ d, owns (c : Thread nD τ) normP fullShare d))
          ∗ (∃ r, prngReg c r)
          ∗ iprop(semVal ((c : Thread nD τ), cell cc0_scratch6 0) 0 ∗ semVal ((c : Thread nD τ), cell cc0_scratch6 1) 0
              ∗ semVal ((c : Thread nD τ), cell cc0_scratch7 0) 0 ∗ semVal ((c : Thread nD τ), cell cc0_scratch7 1) 0)
          ∗ iprop((srcP.view.loc (c : Thread nD τ) ↦{fullShare} V m c main_v0) ∗ (srcT.view.loc (c : Thread nD τ) ↦{fullShare} V m c main_v1))) := by
  rw [Pipeline.ΦD_eq, scopedRest0_eq, cells_eq, reads_eq]
  simp only [histP, histT, normT, normP, owns_whole]; try rfl

/-! ## A two-slot buffer is its slots -/

abbrev slotSet (s : Fin 2) : Finset S2x2048x128.Idx := (Rect.unit (s := S2x2048x128) ![s.val, 0, 0] S1x2048x128.size (inb_slot s)).set
theorem slots_disjoint (s s' : Fin 2) (h : s ≠ s') : Disjoint (slotSet s) (slotSet s') :=
  Ring.lead_disjoint (s := S2x2048x128) (0 : Fin 3) 1 (fun j : Fin 2 => (![j.val, 0, 0] : Fin 3 → Nat)) S1x2048x128.size inb_slot
    (fun j => by simp) rfl s s' h
theorem slots_cover : Finset.univ.biUnion slotSet = Finset.univ :=
  Ring.lead_cover (s := S2x2048x128) (0 : Fin 3) 1 (fun j : Fin 2 => (![j.val, 0, 0] : Fin 3 → Nat)) S1x2048x128.size inb_slot (fun j => by simp)
    (fun j a ha => by fin_cases a <;> first | exact absurd rfl ha | rfl) rfl (fun a ha => by fin_cases a <;> first | exact absurd rfl ha | rfl) rfl

theorem ringT_set (s : Fin 2) : (slot ringT s).view.set = slotSet s := by
  simp only [slot, Memref.view_squeeze, View.set_reshape]; exact View.set_slice_whole _ _
theorem ringT_slots (c : Dev nD) :
    iprop(∃ f, ringT.view.loc (c : Thread nD τ) ↦{fullShare} f)
      ⊣⊢ (iprop((∃ f, (slot ringT 0).view.loc (c : Thread nD τ) ↦[(slot ringT 0).view.set]{fullShare} f)
        ∗ ∃ f, (slot ringT 1).view.loc (c : Thread nD τ) ↦[(slot ringT 1).view.set]{fullShare} f) : sProp 𝕄) := by
  have e : ∀ s f, ((slot ringT s).view.loc (c : Thread nD τ) ↦[(slot ringT s).view.set]{fullShare} f : sProp 𝕄)
      = (ringT.view.loc (c : Thread nD τ) ↦[slotSet s]{fullShare} f) := fun s f => by
    rw [ringT_set]
  exact ⟨Ring.slots2_split (U := Pipeline.UD sig nD τ) (ℓ := ringT.view.loc (c : Thread nD τ)) (q := fullShare) slotSet slots_disjoint slots_cover
      (fun f => ((slot ringT 0).view.loc (c : Thread nD τ) ↦[(slot ringT 0).view.set]{fullShare} f : sProp 𝕄))
      (fun f => ((slot ringT 1).view.loc (c : Thread nD τ) ↦[(slot ringT 1).view.set]{fullShare} f : sProp 𝕄)) (e 0) (e 1),
    Ring.slots2_join (U := Pipeline.UD sig nD τ) (ℓ := ringT.view.loc (c : Thread nD τ)) (q := fullShare) slotSet slots_disjoint slots_cover
      (fun f => ((slot ringT 0).view.loc (c : Thread nD τ) ↦[(slot ringT 0).view.set]{fullShare} f : sProp 𝕄))
      (fun f => ((slot ringT 1).view.loc (c : Thread nD τ) ↦[(slot ringT 1).view.set]{fullShare} f : sProp 𝕄)) (e 0) (e 1)⟩

theorem ringP_set (s : Fin 2) : (slot ringP s).view.set = slotSet s := by
  simp only [slot, Memref.view_squeeze, View.set_reshape]; exact View.set_slice_whole _ _
theorem ringP_slots (c : Dev nD) :
    iprop(∃ f, ringP.view.loc (c : Thread nD τ) ↦{fullShare} f)
      ⊣⊢ (iprop((∃ f, (slot ringP 0).view.loc (c : Thread nD τ) ↦[(slot ringP 0).view.set]{fullShare} f)
        ∗ ∃ f, (slot ringP 1).view.loc (c : Thread nD τ) ↦[(slot ringP 1).view.set]{fullShare} f) : sProp 𝕄) := by
  have e : ∀ s f, ((slot ringP s).view.loc (c : Thread nD τ) ↦[(slot ringP s).view.set]{fullShare} f : sProp 𝕄)
      = (ringP.view.loc (c : Thread nD τ) ↦[slotSet s]{fullShare} f) := fun s f => by
    rw [ringP_set]
  exact ⟨Ring.slots2_split (U := Pipeline.UD sig nD τ) (ℓ := ringP.view.loc (c : Thread nD τ)) (q := fullShare) slotSet slots_disjoint slots_cover
      (fun f => ((slot ringP 0).view.loc (c : Thread nD τ) ↦[(slot ringP 0).view.set]{fullShare} f : sProp 𝕄))
      (fun f => ((slot ringP 1).view.loc (c : Thread nD τ) ↦[(slot ringP 1).view.set]{fullShare} f : sProp 𝕄)) (e 0) (e 1),
    Ring.slots2_join (U := Pipeline.UD sig nD τ) (ℓ := ringP.view.loc (c : Thread nD τ)) (q := fullShare) slotSet slots_disjoint slots_cover
      (fun f => ((slot ringP 0).view.loc (c : Thread nD τ) ↦[(slot ringP 0).view.set]{fullShare} f : sProp 𝕄))
      (fun f => ((slot ringP 1).view.loc (c : Thread nD τ) ↦[(slot ringP 1).view.set]{fullShare} f : sProp 𝕄)) (e 0) (e 1)⟩

/-- The halves in which the two slots' transfers read an array. -/
def half (s : Fin 2) : PosShare TreeShare := if s = 0 then fullShare.left else fullShare.right

theorem halves {ℓ : Loc nD τ sig} (f : Buf (Elt F) ℓ) :
    (ℓ ↦{fullShare} f : sProp 𝕄) ⊣⊢ iprop((ℓ ↦{half 0} f) ∗ (ℓ ↦{half 1} f)) :=
  pointsTo_share (PosShare.mem_left_op_right _)

/-! ## The stored rows, the proof data, the body obligation -/

/-- The sixteen rows of the kernel's run on a staging buffer. -/
abbrev rowsAt (c : Dev nD) (t : Fin cfg0.N) : List (View.Piece (Elt F) S16x8x128 .f32) :=
  rows c srcP (Memref.isWhole_whole _) srcT (Memref.isWhole_whole _) (ms t) (hstage0_0 0) ringT (Memref.isWhole_whole _) ringP (Memref.isWhole_whole _)
    histP (Memref.isWhole_whole _) histT (Memref.isWhole_whole _) normT (Memref.isWhole_whole _) normP (Memref.isWhole_whole _)
    cc0_scratch6 cc0_scratch7 (V m c main_v1) (V m c main_v0) 16

theorem off25_eq (k : Fin k0_t1_loop.trips) : k0_off25 k = ![k.val, 0, 0] := by revert k; decide

/-- The rows cover the result. -/
theorem rows_cover (c : Dev nD) (t : Fin cfg0.N) (y : S16x8x128.Idx) : ∃ p ∈ rowsAt m c t, y ∈ p.1.set := by
  have key : ∀ n, n ≤ 16 → (y 0).val < n → ∃ p ∈ rows c srcP (Memref.isWhole_whole _) srcT (Memref.isWhole_whole _) (ms t) (hstage0_0 0)
      ringT (Memref.isWhole_whole _) ringP (Memref.isWhole_whole _) histP (Memref.isWhole_whole _) histT (Memref.isWhole_whole _)
      normT (Memref.isWhole_whole _) normP (Memref.isWhole_whole _) cc0_scratch6 cc0_scratch7 (V m c main_v1) (V m c main_v0) n,
        y ∈ p.1.set := by
    intro n
    induction n with
    | zero => intro _ h; exact absurd h (Nat.not_lt_zero _)
    | succ n ih =>
      intro hn hy
      have hk : n < k0_t1_loop.trips := hn
      rw [rows_succ (k := ⟨n, hk⟩)]
      by_cases h : (y 0).val < n
      · obtain ⟨p, hp, hy⟩ := ih (by omega) h
        exact ⟨p, List.mem_cons_of_mem _ hp, hy⟩
      · refine ⟨_, List.mem_cons_self, ?_⟩
        show y ∈ (Rect.unit (s := S16x8x128) (k0_off25 ⟨n, hk⟩) S1x8x128.size (k0_off25_inb ⟨n, hk⟩)).set
        refine Rect.mem_set_unit.2 fun a => ?_
        rw [off25_eq]
        have h1 := (y 1).isLt
        have h2 := (y 2).isLt
        fin_cases a
        · show n ≤ (y 0).val ∧ (y 0).val < n + 1; omega
        · exact ⟨Nat.zero_le _, by show (y 1).val < 0 + 8; exact (Nat.zero_add 8).symm ▸ h1⟩
        · exact ⟨Nat.zero_le _, by show (y 2).val < 0 + 128; exact (Nat.zero_add 128).symm ▸ h2⟩
  exact key 16 (Nat.le_refl _) (y 0).isLt

/-- What the kernel leaves in the result's staging buffer. -/
def outAt (c : Dev nD) (t : Fin cfg0.N) : Vec F S16x8x128 .f32 :=
  (ms t).view.read (Elt F) ((ms t).view.writes (Elt F) (ms t).view.junk (rowsAt m c t))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => outAt m c t
  Φ _ := Pipeline.ΦD cells spec0 reads (V m) c
  q _ := fullShare
  owed _ := 0

theorem A_eq (c : Dev nD) (w : Fin cfg0.W) : (dats m 0 c).A w = V m c (Pipeline.arrRef spec0 w) := by
  dsimp only [dats]
theorem after_eq (c : Dev nD) (t : Fin cfg0.N) : (dats m 0 c).after 0 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after_eq]
  rw [show (dats m 0 c).Φ t.castSucc = Pipeline.ΦD cells spec0 reads (V m) c from rfl, inv_eq]
  unfold Dat.owesAt Pipeline.owesWithin
  rw [show (dats m 0 c).owed t.castSucc = 0 from rfl, show (dats m 0 c).owed t.succ = 0 from rfl]
  unfold outAt owns
  iintro ⟨⟨⟨HT, HP, HhP, HhT, HnT, HnP⟩, Hg, ⟨Hq0, Hq1, Hq2, Hq3⟩, ⟨H0, H1⟩⟩, ⟨%W, -, HW⟩, ⟨%d0, %f2, -, H2⟩⟩
  ihave HT' := (ringT_slots c).1 $$ HT
  icases HT' with ⟨HT0, HT1⟩
  ihave HP' := (ringP_slots c).1 $$ HP
  icases HP' with ⟨HP0, HP1⟩
  ihave H0' := (halves (V m c main_v0)).1 $$ H0
  icases H0' with ⟨H00, H01⟩
  ihave H1' := (halves (V m c main_v1)).1 $$ H1
  icases H1' with ⟨H10, H11⟩
  iapply (body_run c srcP _ srcT _ (ms t) _ ringT _ ringP _ histP _ histT _ normT _ normP _ cc0_scratch6 cc0_scratch7
    half (V m c main_v1) (V m c main_v0) f2 W _ iprop(∃ r, prngReg c r) ?post)
  case post =>
    unfold Free
    iintro ⟨Hg, ⟨Hq0, HT0, H10⟩, ⟨Hq2, HP0, H00⟩, ⟨Hq1, HT1, H11⟩, ⟨Hq3, HP1, H01⟩, ⟨%W', HW⟩, H2, HhP, HhT, HnT, HnP⟩
    isplitl [HT0 HT1 HP0 HP1 HhP HhT HnT HnP Hg Hq0 Hq1 Hq2 Hq3 H00 H01 H10 H11]
    · isplitl [HT0 HT1 HP0 HP1 HhP HhT HnT HnP]
      · isplitl [HT0 HT1]
        · iapply (ringT_slots c).2
          isplitl [HT0]; · iexact HT0
          iexact HT1
        isplitl [HP0 HP1]
        · iapply (ringP_slots c).2
          isplitl [HP0]; · iexact HP0
          iexact HP1
        isplitl [HhP]; · iexact HhP
        isplitl [HhT]; · iexact HhT
        isplitl [HnT]; · iexact HnT
        iexact HnP
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [H00 H01]
      · iapply (halves (V m c main_v0)).2
        isplitl [H00]; · iexact H00
        iexact H01
      iapply (halves (V m c main_v1)).2
      isplitl [H10]; · iexact H10
      iexact H11
    isplitl [HW]
    · iexists W'; isplitr; · ipureintro; exact fun _ _ => Or.inl trivial
      iexact HW
    iexists _; isplitr
    swap; · iexact H2
    ipureintro; exact View.read_writes_of_cover _ _ _ _ _ (rows_cover m c t)
  unfold Free owns
  isplitl [Hg]; · iexact Hg
  isplitl [Hq0 HT0 H10]
  · isplitl [Hq0]; · iexact Hq0
    isplitl [HT0]; · iexact HT0
    iexact H10
  isplitl [Hq2 HP0 H00]
  · isplitl [Hq2]; · iexact Hq2
    isplitl [HP0]; · iexact HP0
    iexact H00
  isplitl [Hq1 HT1 H11]
  · isplitl [Hq1]; · iexact Hq1
    isplitl [HT1]; · iexact HT1
    iexact H11
  isplitl [Hq3 HP1 H01]
  · isplitl [Hq3]; · iexact Hq3
    isplitl [HP1]; · iexact HP1
    iexact H01
  isplitl [HW]; · iexact HW
  isplitl [H2]; · iexact H2
  isplitl [HhP]; · iexact HhP
  isplitl [HhT]; · iexact HhT
  isplitl [HnT]; · iexact HnT
  iexact HnP

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem tail_apart : (hostOps1 : List (HloOp τ sig (Elt F))).Forall fun op => ∀ b ∈ reads, Proc.devRef .tc b ∉ op.bufs := by
  simp only [hostOps1, List.flatten_cons, List.flatten_nil, List.append_nil, List.cons_append, List.nil_append, List.Forall]
  repeat' apply And.intro
  all_goals
    intro b hb
    rcases Finset.mem_insert.1 hb with rfl | hb
    on_goal 2 => obtain rfl := Finset.mem_singleton.1 hb
  all_goals first
    | exact fun h => StableHlo.devRef_ne_of_ne (by decide) (Finset.mem_singleton.1 h)
    | exact fun h => (Finset.mem_insert.1 h).elim (StableHlo.devRef_ne_of_ne (by decide))
        (fun h => StableHlo.devRef_ne_of_ne (by decide) (Finset.mem_singleton.1 h))
    | exact fun h => (Finset.mem_insert.1 h).elim (StableHlo.devRef_ne_of_ne (by decide)) fun h =>
        (Finset.mem_insert.1 h).elim (StableHlo.devRef_ne_of_ne (by decide))
          (fun h => StableHlo.devRef_ne_of_ne (by decide) (Finset.mem_singleton.1 h))

/-- The closing lines touch neither array the kernel's transfers read. -/
theorem tail_sub : ∀ ops ∈ ([hostOps1] : List (List (HloOp τ sig (Elt F)))), ∀ op ∈ ops,
    op.bufs ⊆ Pipeline.tailRefsBut sig Pipeline.Prefetch.none spec0 reads := by
  intro ops h op hop
  obtain rfl := List.mem_singleton.1 h
  refine Pipeline.sub_tailRefsBut _ _ _ op ?_ (fun k => k.elim0) ?_
  · exact (List.forall_iff_forall_mem.mp hostOps1_sub) op hop
  · exact (List.forall_iff_forall_mem.mp tail_apart) op hop

/-- What every run ends in: the pipeline's arrays and the closing lines' results, and every counter at zero. -/
abbrev Ends (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
theorem run_main : θ_run defs (onTc (τ := τ) (main (F := F))) (s₀ m ρ) (Ends m) :=
  Pipeline.θ_run_frame_dma_around cfgs (dats m) (0 : Fin 1) launch0 cells defs₀ Variants.none cells_own reads reads_sub m ρ main
    (hbody := fun c => (body_obligation m c).loose) (hshare := fun c => (dats m 0 c).share_full fun _ => rfl)
    (howed := fun _ _ => rfl) (V₀ := V0 m) (opss := [hostOps1]) tail_sub sfx_fresh sfx_keeps (main_around m Variants.none) (A_eq m)
    (fun _ => .rfl) (fun _ => .rfl) (Q' := Ends m) (hQ' := fun _ h => h)

/-- The closing lines write no argument. -/
theorem after_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem after_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem ends_args {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h.1 c).2 main_arg0 (Pipeline.mem_restRefs_of main_arg0 (by decide) (by decide))).trans (after_arg0 m c),
    ((h.1 c).2 main_arg1 (Pipeline.mem_restRefs_of main_arg1 (by decide) (by decide))).trans (after_arg1 m c)⟩

end Cert.Proof.KernelIdeal

end
-- ==== Proof.Divergence.lean ====
/-
  The loss in extended reals, over an image's entries indexed by any finite type.  Both programs are brought to
  these definitions: the smallest and the largest target, an entry's place between them, its Gaussian weight in each
  of the 64 bins, the histograms, and the divergence between the two histograms' shares.
-/
module

public import Idealize.ShloMosaic.Lib.Pointwise

@[expose] public section

noncomputable section

namespace Cert.Divergence

open Idealize.ShloMosaic

variable {ι κ : Type} [Fintype ι] [Fintype κ]

/-- The small number added to denominators and logarithms. -/
abbrev eps : EReal := Ideal.ofBits .f32 0x322BCC77#32

/-- The smallest entry. -/
def lo (t : ι → EReal) : EReal := ⨅ i, t i

/-- The largest entry. -/
def hi (t : ι → EReal) : EReal := ⨆ i, t i

/-- The spread of the entries. -/
def spread (t : ι → EReal) : EReal := hi t - lo t

/-- Where `v` lies between the smallest and the largest entry. -/
def place (t : ι → EReal) (v : EReal) : EReal := Ideal.div (v - lo t) (spread t + eps)

/-- The middle of bin `j`. -/
def middle (j : Fin 64) : ℝ := (2 * (j : ℝ) + 1) / 128

/-- The Gaussian weight of place `x` in bin `j`: the bins are 1/64 wide. -/
def gauss (j : Fin 64) (x : EReal) : EReal :=
  Ideal.exp (Ideal.div (-((x - (middle j : ℝ)) * (x - (middle j : ℝ)))) ((1 / 2048 : ℝ) : EReal))

/-- The histogram of the entries `p`, placed by the entries `t`. -/
def hist (t p : ι → EReal) (j : Fin 64) : EReal := ∑ i, gauss j (place t (p i))

/-- A histogram's shares. -/
def share (h : Fin 64 → EReal) (j : Fin 64) : EReal := Ideal.div (h j) ((∑ k, h k) + eps)

/-- The divergence between two histograms. -/
def divergence (a b : Fin 64 → EReal) : EReal :=
  ∑ j, share a j * (Ideal.log (share a j + eps) - Ideal.log (share b j + eps))

/-- The loss of sixteen images. -/
def loss (t p : Fin 16 → ι → EReal) : EReal :=
  Ideal.ofBits .f32 0x3DCCCCCD#32
    * Ideal.div (∑ b, divergence (hist (t b) (t b)) (hist (t b) (p b))) (Ideal.ofBits .f32 0x41800000#32)

theorem lo_comp (e : κ ≃ ι) (t : ι → EReal) : lo (fun k => t (e k)) = lo t := e.iInf_comp
theorem hi_comp (e : κ ≃ ι) (t : ι → EReal) : hi (fun k => t (e k)) = hi t := e.iSup_comp

theorem hist_comp (e : κ ≃ ι) (t p : ι → EReal) : hist (fun k => t (e k)) (fun k => p (e k)) = hist t p := by
  funext j
  unfold hist place spread
  rw [lo_comp, hi_comp]
  exact Equiv.sum_comp e fun i => gauss j (Ideal.div (p i - lo t) (hi t - lo t + eps))

/-- The loss does not depend on how the entries are numbered. -/
theorem loss_comp (e : κ ≃ ι) (t p : Fin 16 → ι → EReal) :
    loss (fun b k => t b (e k)) (fun b k => p b (e k)) = loss t p := by
  unfold loss
  simp only [hist_comp]

theorem word_64 : Ideal.ofBits .f32 0x42800000#32 = ((64 : ℝ) : EReal) := by
  simp [Ideal.ofBits, Ideal.ieee, ← EReal.coe_mul]; norm_num

theorem word_2 : Ideal.ofBits .f32 0x40000000#32 = ((2 : ℝ) : EReal) := by
  simp [Ideal.ofBits, Ideal.ieee, ← EReal.coe_mul]; norm_num

theorem word_top : Ideal.ofBits .f32 0x7F800000#32 = ⊤ := by simp [Ideal.ofBits, Ideal.ieee]

theorem word_bot : Ideal.ofBits .f32 0xFF800000#32 = ⊥ := by simp [Ideal.ofBits, Ideal.ieee]

/-- The smallest entry as a fold from the largest number. -/
theorem fold_min (t : ι → EReal) : Finset.univ.fold min (Ideal.ofBits .f32 0x7F800000#32) t = lo t := by
  rw [word_top]
  exact Finset.inf_univ_eq_iInf t

/-- The largest entry as a fold from the smallest number. -/
theorem fold_max (t : ι → EReal) : Finset.univ.fold max (Ideal.ofBits .f32 0xFF800000#32) t = hi t := by
  rw [word_bot]
  exact Finset.sup_univ_eq_iSup t

end Cert.Divergence

end
-- ==== Proof.Gaussian.lean ====
/-
  One entry's weight, two ways.  The kernel stretches an entry's place by 64, measures its distance `u` from the first
  middle of a group of eight bins, and takes `2 ^ (u * a * u)` and then the ratio `2 ^ (u * b)` once per bin, with
  `a` and `b` the named constants; a scale per bin completes the square.  It is the Gaussian weight of the reference.
-/
module

public import proofs.«01_k».proof.Proof.Divergence

@[expose] public section

noncomputable section

namespace Cert.Divergence

open Idealize.ShloMosaic

/-- The constant of the first weight: minus half the logarithm of e to base 2. -/
def negHalfLog2e : ℝ := (-(1 / 2)) * (Real.log 2)⁻¹

/-- The constant of the ratio: the logarithm of e to base 2. -/
def log2e : ℝ := (Real.log 2)⁻¹

/-- The weight of distance `u` in the group's bin `k`, before the scale. -/
def stepped (u : EReal) : ℕ → EReal
  | 0 => Ideal.exp2 (u * (negHalfLog2e : ℝ) * u)
  | k + 1 => stepped u k * Ideal.exp2 (u * (log2e : ℝ))

/-- Where an entry lies, stretched so that the bins are 1 wide. -/
def stretched {ι : Type} (t : ι → EReal) (v : EReal) : EReal := (v - lo t) * Ideal.div ((64 : ℝ) : EReal) (spread t + eps)

theorem eps_pos : ∃ r : ℝ, 0 < r ∧ eps = r := by
  refine ⟨_, ?_, by simp [Ideal.ofBits, Ideal.ieee, ← EReal.coe_mul]; rfl⟩
  positivity

/-- The denominator is not zero: the largest entry is not below the smallest. -/
theorem spread_ne_zero {ι : Type} [Nonempty ι] (t : ι → EReal) : spread t + eps ≠ 0 := by
  obtain ⟨r, hr, he⟩ := eps_pos
  have hle : lo t ≤ hi t := (iInf_le t (Classical.arbitrary ι)).trans (le_iSup t _)
  rw [he]
  unfold spread
  revert hle
  generalize hi t = b
  generalize lo t = a
  intro hle
  induction b with
  | bot => simp
  | top => induction a with
    | bot => simp
    | top => simp
    | coe a => simp
  | coe b => induction a with
    | bot => simp
    | top => simp
    | coe a =>
      have hab : a ≤ b := EReal.coe_le_coe_iff.mp hle
      rw [← EReal.coe_sub, ← EReal.coe_add]
      exact EReal.coe_ne_zero.mpr (by linarith)

theorem stretched_eq {ι : Type} [Nonempty ι] (t : ι → EReal) (v : EReal) : stretched t v = ((64 : ℝ) : EReal) * place t v := by
  unfold stretched place Ideal.div
  rw [if_neg (spread_ne_zero t), if_neg (spread_ne_zero t), mul_left_comm]

theorem stepped_coe (u : ℝ) (k : ℕ) : stepped u k = ((Real.exp (-(u * u) / 2 + k * u) : ℝ) : EReal) := by
  have h2 (x : ℝ) : Real.rpow 2 (x * (Real.log 2)⁻¹) = Real.exp x := by
    have : Real.log 2 ≠ 0 := (Real.log_pos (by norm_num)).ne'
    show (2 : ℝ) ^ (x * (Real.log 2)⁻¹) = _
    rw [Real.rpow_def_of_pos (by norm_num)]
    congr 1
    field_simp
  induction k with
  | zero =>
    unfold stepped negHalfLog2e
    rw [← EReal.coe_mul, ← EReal.coe_mul, Ideal.exp2_coe, ← h2]
    congr 2
    push_cast
    ring
  | succ k ih =>
    unfold stepped log2e
    rw [ih, ← EReal.coe_mul, Ideal.exp2_coe, h2, ← EReal.coe_mul, ← Real.exp_add]
    congr 2
    push_cast
    ring

theorem negHalfLog2e_neg : negHalfLog2e < 0 := by
  have : 0 < Real.log 2 := Real.log_pos (by norm_num)
  unfold negHalfLog2e
  have := inv_pos.mpr this
  nlinarith

theorem stepped_top (k : ℕ) : stepped ⊤ k = 0 := by
  induction k with
  | zero =>
    unfold stepped
    rw [EReal.top_mul_coe_of_neg negHalfLog2e_neg, EReal.bot_mul_top]
    rfl
  | succ k ih => unfold stepped; rw [ih, zero_mul]

theorem stepped_bot (k : ℕ) : stepped ⊥ k = 0 := by
  induction k with
  | zero =>
    unfold stepped
    rw [EReal.bot_mul_coe_of_neg negHalfLog2e_neg, EReal.top_mul_bot]
    rfl
  | succ k ih => unfold stepped; rw [ih, zero_mul]

/-- The scale completes the square: bin `8 g + k`, `64 x` measured from the group's first middle. -/
theorem scaled (g k : ℕ) (h : 8 * g + k < 64) (x : EReal) :
    ((Real.exp (-((k : ℝ) * k) / 2) : ℝ) : EReal) * stepped (((64 : ℝ) : EReal) * x - ((8 * (g : ℝ) + 1 / 2 : ℝ) : EReal)) k
      = gauss ⟨8 * g + k, h⟩ x := by
  unfold gauss
  rw [Ideal.div_coe (by norm_num)]
  induction x with
  | bot =>
    rw [EReal.coe_mul_bot_of_pos (by norm_num), EReal.bot_sub, stepped_bot, mul_zero, EReal.bot_sub, EReal.bot_mul_bot,
      EReal.neg_top, EReal.bot_mul_coe_of_pos (by norm_num)]
    rfl
  | top =>
    rw [EReal.coe_mul_top_of_pos (by norm_num), EReal.top_sub_coe, stepped_top, mul_zero, EReal.top_sub_coe, EReal.top_mul_top,
      EReal.neg_top, EReal.bot_mul_coe_of_pos (by norm_num)]
    rfl
  | coe x =>
    rw [← EReal.coe_mul, ← EReal.coe_sub, stepped_coe, ← EReal.coe_mul, ← Real.exp_add, ← EReal.coe_sub, ← EReal.coe_mul,
      ← EReal.coe_neg, ← EReal.coe_mul, Ideal.exp_coe]
    congr 2
    unfold middle
    push_cast
    ring

end Cert.Divergence

end
-- ==== Proof.KernelIdealSums.lean ====
/-
  The kernel's loops read entry by entry in extended reals: the minimum and maximum over an image, and one bin's sum.
-/
module

public import proofs.«01_k».proof.Proof.KernelIdealSlots
public import proofs.«01_k».proof.Proof.Gaussian

@[expose] public section

noncomputable section

namespace Cert.Proof.KernelIdeal

open Cert.KernelIdeal Cert.KernelIdeal.Gen Cert.Divergence
open Idealize.ShloMosaic Idealize.ShloMosaic.TcCoe

/-- An image in extended reals. -/
abbrev Image : Type := S2048x128.Idx → EReal

/-- Row `64 k + 8 a + s` of an image: row `s` of block `a` of chunk `k`. -/
def row (k : Fin 32) (a s : Fin 8) : Fin 2048 := ⟨k * 64 + (a * 8 + s), by omega⟩

theorem eq_row (r : Fin 2048) : ∃ k a s, r = row k a s :=
  ⟨⟨r / 64, by omega⟩, ⟨r % 64 / 8, by omega⟩, ⟨r % 8, by omega⟩, Fin.ext (by unfold row; dsimp only; omega)⟩

theorem chunk_apply (Z : Image) (k : ℕ) (h : k < 32) (a s : Fin 8) (l : Fin 128) :
    chunkAt Z k h (ix2 ⟨a * 8 + s, by omega⟩ l) = Z (ix2 (row ⟨k, h⟩ a s) l) := by
  unfold chunkAt row
  congr 1
  funext x
  apply Fin.ext
  fin_cases x
  · show 64 * k + 1 * (a * 8 + s : ℕ) = k * 64 + (a * 8 + s : ℕ); omega
  · show 0 + 1 * (l : ℕ) = l; omega

/-! ## Minimum and maximum -/

theorem mmStep_min (p : MM Ideal) (v : FVec Ideal S64x128 .f32) (s : Fin 8) (l : Fin 128) :
    (mmStep p v).1 (ix2 s l) = min (p.1 (ix2 s l)) (lo fun a : Fin 8 => v (ix2 ⟨a * 8 + s, by omega⟩ l)) := by
  pointwise [mmStep, blocks]
  rw [fold_min]

theorem mmStep_max (p : MM Ideal) (v : FVec Ideal S64x128 .f32) (s : Fin 8) (l : Fin 128) :
    (mmStep p v).2 (ix2 s l) = max (p.2 (ix2 s l)) (hi fun a : Fin 8 => v (ix2 ⟨a * 8 + s, by omega⟩ l)) := by
  pointwise [mmStep, blocks]
  rw [fold_max]

theorem le_running (T : Image) (x : EReal) (s : Fin 8) (l : Fin 128) (n : ℕ) (hn : n ≤ 32) :
    x ≤ (foldN (F := Ideal) mmStep T (k0_pay2, k0_pay3) n).1 (ix2 s l) ↔ ∀ k : Fin 32, k.val < n → ∀ a, x ≤ T (ix2 (row k a s) l) := by
  induction n with
  | zero =>
    have h : (foldN (F := Ideal) mmStep T (k0_pay2, k0_pay3) 0).1 (ix2 s l) = ⊤ := word_top
    rw [h]
    exact ⟨fun _ k hk => absurd hk (Nat.not_lt_zero _), fun _ => le_top⟩
  | succ n ih =>
    rw [foldN_succ (F := Ideal) _ _ _ n hn, mmStep_min, le_min_iff, ih (Nat.le_of_succ_le hn)]
    simp only [chunk_apply, lo, le_iInf_iff]
    constructor
    · rintro ⟨h1, h2⟩ k hk a
      rcases Nat.lt_succ_iff_lt_or_eq.mp hk with h | h
      · exact h1 k h a
      · have e : k = ⟨n, hn⟩ := Fin.ext h
        rw [e]; exact h2 a
    · exact fun h => ⟨fun k hk a => h k (Nat.lt_succ_of_lt hk) a, fun a => h ⟨n, hn⟩ (Nat.lt_succ_self n) a⟩

theorem running_le (T : Image) (x : EReal) (s : Fin 8) (l : Fin 128) (n : ℕ) (hn : n ≤ 32) :
    (foldN (F := Ideal) mmStep T (k0_pay2, k0_pay3) n).2 (ix2 s l) ≤ x ↔ ∀ k : Fin 32, k.val < n → ∀ a, T (ix2 (row k a s) l) ≤ x := by
  induction n with
  | zero =>
    have h : (foldN (F := Ideal) mmStep T (k0_pay2, k0_pay3) 0).2 (ix2 s l) = ⊥ := word_bot
    rw [h]
    exact ⟨fun _ k hk => absurd hk (Nat.not_lt_zero _), fun _ => bot_le⟩
  | succ n ih =>
    rw [foldN_succ (F := Ideal) _ _ _ n hn, mmStep_max, max_le_iff, ih (Nat.le_of_succ_le hn)]
    simp only [chunk_apply, hi, iSup_le_iff]
    constructor
    · rintro ⟨h1, h2⟩ k hk a
      rcases Nat.lt_succ_iff_lt_or_eq.mp hk with h | h
      · exact h1 k h a
      · have e : k = ⟨n, hn⟩ := Fin.ext h
        rw [e]; exact h2 a
    · exact fun h => ⟨fun k hk a => h k (Nat.lt_succ_of_lt hk) a, fun a => h ⟨n, hn⟩ (Nat.lt_succ_self n) a⟩

theorem pay7_apply (p : FVec Ideal S8x128 .f32) : k0_pay7 p = lo fun x : Fin 8 × Fin 128 => p (ix2 x.1 x.2) := by
  pointwise [k0_pay7]
  rw [fold_min]

theorem pay8_apply (p q : FVec Ideal S8x128 .f32) :
    k0_pay8 p q = (hi fun x : Fin 8 × Fin 128 => q (ix2 x.1 x.2)) - k0_pay7 p := by
  pointwise [k0_pay8]
  rw [fold_max]

/-- The kernel's minimum is the smallest entry. -/
theorem tmin_eq (T : Image) : tmin (F := Ideal) T = lo T := by
  unfold tmin mmOf
  rw [pay7_apply]
  refine eq_of_forall_le_iff fun x => ?_
  simp only [lo, le_iInf_iff, le_running T x _ _ 32 le_rfl]
  constructor
  · intro h i
    obtain ⟨k, a, s, e⟩ := eq_row (i 0)
    rw [eq_ix2 i, e]
    exact h (s, i 1) k k.isLt a
  · exact fun h y k _ a => h _

/-- The kernel's spread is the largest entry less the smallest. -/
theorem tden_eq (T : Image) : tden (F := Ideal) T = spread T := by
  have hmax : (hi fun x : Fin 8 × Fin 128 => (mmOf (F := Ideal) T).2 (ix2 x.1 x.2)) = hi T := by
    unfold mmOf
    refine eq_of_forall_ge_iff fun x => ?_
    simp only [hi, iSup_le_iff, running_le T x _ _ 32 le_rfl]
    constructor
    · intro h i
      obtain ⟨k, a, s, e⟩ := eq_row (i 0)
      rw [eq_ix2 i, e]
      exact h (s, i 1) k k.isLt a
    · exact fun h y k _ a => h _
  have hmin : k0_pay7 (mmOf (F := Ideal) T).1 = lo T := tmin_eq T
  unfold tden
  rw [pay8_apply, hmax, hmin]
  rfl

/-! ## One bin's sum -/

theorem hiC_eq : hiC (F := Ideal) = (⊤ : EReal) := IdealRules.named_const.ideal_named_scalar _ _ _ _ rfl
theorem nlC_eq : nlC (F := Ideal) = ((negHalfLog2e : ℝ) : EReal) := IdealRules.named_const.ideal_named_scalar _ _ _ _ rfl
theorem l2C_eq : l2C (F := Ideal) = ((log2e : ℝ) : EReal) := IdealRules.named_const.ideal_named_scalar _ _ _ _ rfl

theorem dist_apply (sh : EReal) (v : FVec Ideal S64x128 .f32) (i : S64x128.Idx) :
    dist (F := Ideal) sh hiC v i = v i - sh := by
  show min (v i - sh) (hiC (F := Ideal)) = _
  rw [hiC_eq]
  exact min_top_right _

theorem weight_apply (sh : EReal) (v : FVec Ideal S64x128 .f32) (k : ℕ) (i : S64x128.Idx) :
    weight (F := Ideal) sh hiC nlC l2C v k i = stepped (v i - sh) k := by
  induction k with
  | zero =>
    show Ideal.exp2 (dist (F := Ideal) sh hiC v i * nlC (F := Ideal) * dist (F := Ideal) sh hiC v i) = _
    rw [dist_apply, nlC_eq]
    rfl
  | succ k ih =>
    show weight (F := Ideal) sh hiC nlC l2C v k i * Ideal.exp2 (dist (F := Ideal) sh hiC v i * l2C (F := Ideal)) = _
    rw [ih, dist_apply, l2C_eq]
    rfl

theorem sum8_apply (v : FVec Ideal S64x128 .f32) (s : Fin 8) (l : Fin 128) :
    sum8 v (ix2 s l) = ∑ a : Fin 8, v (ix2 ⟨a * 8 + s, by omega⟩ l) := by
  pointwise [sum8, blocks]

theorem grpStep_at {F : FTy → Type} [FloatOps F] [Named F] (sh hi nl l2 : F .f32) (a : A8 F) (v : Vec F S64x128 .f32) (j : Fin 8) :
    (grpStep sh hi nl l2 a v).at j = addf (a.at j) (sum8 (weight sh hi nl l2 v j)) := by
  fin_cases j <;> rfl

/-- The eight sums before the first chunk. -/
def zeros {F : FTy → Type} [FloatOps F] : A8 F := (k0_pay20, k0_pay21, k0_pay22, k0_pay23, k0_pay24, k0_pay25, k0_pay26, k0_pay27)

theorem zeros_at {F : FTy → Type} [FloatOps F] (j : Fin 8) : (zeros (F := F)).at j = broadcast S8x128 (Scalar.ofBits .f32 0x00000000#32) := by
  fin_cases j <;> rfl

/-- What chunk `k` adds to bin `j` of a group at row `s` and lane `l` of the running sums. -/
def added (sh : EReal) (Z : Image) (j : ℕ) (s : Fin 8) (l : Fin 128) (k : Fin 32) : EReal :=
  ∑ a : Fin 8, stepped (Z (ix2 (row k a s) l) - sh) j

theorem running_sum (sh : EReal) (Z : Image) (j : Fin 8) (s : Fin 8) (l : Fin 128) (n : ℕ) (hn : n ≤ 32) :
    (foldN (F := Ideal) (grpStep (F := Ideal) sh hiC nlC l2C) Z zeros n).at j (ix2 s l)
      = ∑ k ∈ Finset.range n, if h : k < 32 then added sh Z j s l ⟨k, h⟩ else 0 := by
  induction n with
  | zero =>
    show (zeros (F := Ideal)).at j (ix2 s l) = 0
    rw [zeros_at]
    exact Ideal.ofBits_zero_f32
  | succ n ih =>
    have h : n < 32 := hn
    rw [foldN_succ (F := Ideal) _ _ _ n h, grpStep_at, Finset.sum_range_succ, dif_pos h, ← ih (Nat.le_of_succ_le hn)]
    show _ + sum8 _ (ix2 s l) = _
    rw [sum8_apply]
    simp only [weight_apply, chunk_apply]
    rfl

theorem group_sum (sh : EReal) (Z : Image) (j : Fin 8) (s : Fin 8) (l : Fin 128) :
    (foldN (F := Ideal) (grpStep (F := Ideal) sh hiC nlC l2C) Z zeros 32).at j (ix2 s l) = ∑ k, added sh Z j s l k := by
  rw [running_sum sh Z j s l 32 le_rfl, Finset.sum_range]
  exact Finset.sum_congr rfl fun k _ => dif_pos k.isLt

/-- A sum over an image's entries, taken by lane, row within a block, chunk and block. -/
theorem sum_image (f : Image) : ∑ i, f i = ∑ l : Fin 128, ∑ s : Fin 8, ∑ k : Fin 32, ∑ a : Fin 8, f (ix2 (row k a s) l) := by
  rw [sum_idx2, Finset.sum_comm]
  refine Finset.sum_congr rfl fun l _ => ?_
  rw [Fin.sum_univ_tiles 32 64 rfl]
  simp only [Fin.sum_univ_tiles 8 8 rfl]
  refine Eq.trans ?_ (Finset.sum_comm (f := fun (k : Fin 32) (s : Fin 8) => ∑ a : Fin 8, f (ix2 (row k a s) l)))
  exact Finset.sum_congr rfl fun k _ => Finset.sum_comm

/-! ## The histogram -/

theorem stepped_nonneg (u : EReal) (k : ℕ) : 0 ≤ stepped u k := by
  induction u with
  | bot => rw [stepped_bot]
  | top => rw [stepped_top]
  | coe u => rw [stepped_coe]; exact EReal.coe_nonneg.mpr (Real.exp_nonneg _)

/-- A scale moves into a sum of weights. -/
theorem mul_sum_nonneg {ι : Type} (s : Finset ι) (c : EReal) (f : ι → EReal) (hf : ∀ i, 0 ≤ f i) : c * ∑ i ∈ s, f i = ∑ i ∈ s, c * f i := by
  classical
  induction s using Finset.induction_on with
  | empty => simp
  | insert i s hi ih =>
    rw [Finset.sum_insert hi, Finset.sum_insert hi, EReal.left_distrib_of_nonneg (hf i) (Finset.sum_nonneg fun i _ => hf i), ih]

/-- The first middle of each group of eight bins, as the kernel writes it. -/
def shiftWord : Fin 8 → BitVec 32 :=
  ![0x3F000000#32, 0x41080000#32, 0x41840000#32, 0x41C40000#32, 0x42020000#32, 0x42220000#32, 0x42420000#32, 0x42620000#32]

theorem shift_eq (g : Fin 8) : Ideal.ofBits .f32 (shiftWord g) = ((8 * (g : ℕ) + 1 / 2 : ℝ) : EReal) := by
  fin_cases g <;> simp [shiftWord, Ideal.ofBits, Ideal.ieee, ← EReal.coe_mul] <;> norm_num <;> rw [← EReal.coe_add] <;> norm_num

/-- The scale of each bin of a group. -/
def scale {F : FTy → Type} [FloatOps F] : Fin 8 → F .f32 :=
  ![k0_pay12, k0_pay13, k0_pay14, k0_pay15, k0_pay16, k0_pay17, k0_pay18, k0_pay19]

/-- The exponent of each bin's scale, as the kernel writes it. -/
def scaleWord : Fin 8 → BitVec 32 :=
  ![0x00000000#32, 0xBF000000#32, 0xC0000000#32, 0xC0900000#32, 0xC1000000#32, 0xC1480000#32, 0xC1900000#32, 0xC1C40000#32]

theorem scale_word {F : FTy → Type} [FloatOps F] (j : Fin 8) : scale (F := F) j = Scalar.exp (Scalar.ofBits .f32 (scaleWord j)) := by
  fin_cases j <;> rfl

theorem scaleWord_eq (j : Fin 8) : Ideal.ofBits .f32 (scaleWord j) = ((-((j : ℕ) * (j : ℕ)) / 2 : ℝ) : EReal) := by
  fin_cases j <;> simp [scaleWord, Ideal.ofBits, Ideal.ieee, ← EReal.coe_mul] <;> norm_num

theorem scale_eq (j : Fin 8) : scale (F := Ideal) j = ((Real.exp (-((j : ℕ) * (j : ℕ)) / 2) : ℝ) : EReal) := by
  rw [scale_word]
  show Ideal.exp (Ideal.ofBits .f32 (scaleWord j)) = _
  rw [scaleWord_eq, Ideal.exp_coe]

/-- One row of the kernel's table: the scaled sums of bin `j` of group `g`, lane by lane. -/
def binRow {F : FTy → Type} [FloatOps F] [Named F] (Z : S2048x128.Idx → F .f32) (g j : Fin 8) : FVec F S128 .f32 :=
  mulf (broadcast S128 (scale j)) (multiReduction .add [0] S128
    ((foldN (grpStep (Scalar.ofBits .f32 (shiftWord g)) hiC nlC l2C) Z zeros 32).at j) 0x00000000#32 reduces_S8x128_S128 (.inl rfl) rfl)

theorem binRow_apply (Z : Image) (g j : Fin 8) (l : Fin 128) :
    binRow (F := Ideal) Z g j (ix1 l) = scale (F := Ideal) j * ∑ s, ∑ k, added (Ideal.ofBits .f32 (shiftWord g)) Z j s l k := by
  have h : binRow (F := Ideal) Z g j (ix1 l) = scale (F := Ideal) j * ∑ s : Fin 8,
      (foldN (F := Ideal) (grpStep (F := Ideal) (Scalar.ofBits .f32 (shiftWord g)) hiC nlC l2C) Z zeros 32).at j (ix2 s l) := by
    unfold binRow
    generalize (foldN (F := Ideal) (grpStep (F := Ideal) (Scalar.ofBits .f32 (shiftWord g)) hiC nlC l2C) Z zeros 32).at j = A
    pointwise
  rw [h]
  congr 1
  exact Finset.sum_congr rfl fun s _ => group_sum _ Z j s l

/-- A row of the table sums to the histogram's bin. -/
theorem bin_total (t p : Image) (g j : Fin 8) :
    ∑ l : Fin 128, binRow (F := Ideal) (fun i => stretched t (p i)) g j (ix1 l) = hist t p ⟨8 * g + j, by omega⟩ := by
  haveI : Nonempty S2048x128.Idx := ⟨ix2 0 0⟩
  unfold hist
  rw [sum_image]
  refine Finset.sum_congr rfl fun l _ => ?_
  rw [binRow_apply]
  unfold added
  rw [mul_sum_nonneg _ _ _ fun s => Finset.sum_nonneg fun k _ => Finset.sum_nonneg fun a _ => stepped_nonneg _ _]
  refine Finset.sum_congr rfl fun s _ => ?_
  rw [mul_sum_nonneg _ _ _ fun k => Finset.sum_nonneg fun a _ => stepped_nonneg _ _]
  refine Finset.sum_congr rfl fun k _ => ?_
  rw [mul_sum_nonneg _ _ _ fun a => stepped_nonneg _ _]
  refine Finset.sum_congr rfl fun a _ => ?_
  rw [scale_eq, shift_eq]
  show _ * stepped (stretched t (p (ix2 (row k a s) l)) - _) _ = _
  rw [stretched_eq]
  exact scaled g j _ _

end Cert.Proof.KernelIdeal

end
-- ==== Proof.KernelIdealTable.lean ====
/-
  What one trip stores: the table of 64 rows each program trip builds for the targets and for the predictions, read back
  whole, and the divergence taken from the two tables.
-/
module

public import proofs.«01_k».proof.Proof.KernelIdealTrip
public import proofs.«01_k».proof.Proof.KernelIdealSums

@[expose] public section

set_option maxRecDepth 8192

noncomputable section

namespace Cert.Proof.KernelIdeal

open Cert.KernelIdeal Cert.KernelIdeal.Gen Cert.Divergence
open Idealize.ShloMosaic Idealize.ShloMosaic.TcCoe

variable {F : FTy → Type} [FloatOps F] [Named F]

theorem inb_bin (i : Fin 64) : ∀ a, (![i.val, 0] : Fin 2 → ℕ) a + S1x128.size a ≤ S64x128.size a := by
  intro a; fin_cases a
  · show i.val + 1 ≤ 64; omega
  · show 0 + 128 ≤ 128; omega

/-- The row the kernel stores for bin `j` of group `g`. -/
def stored (Z : S2048x128.Idx → F .f32) (g j : Fin 8) : FVec F S1x128 .f32 :=
  shapeCast S1x128 (mulf (broadcast S1x128 (scale j)) (shapeCast S1x128 (multiReduction .add [0] S128
    ((foldN (grpStep (Scalar.ofBits .f32 (shiftWord g)) hiC nlC l2C) Z zeros 32).at j) 0x00000000#32 reduces_S8x128_S128 (.inl rfl) rfl)
    shapeCasts_S128_S1x128)) shapeCasts_S1x128_S1x128

/-- The store of row `8 g + j` of the table. -/
def binPiece (Z : S2048x128.Idx → F .f32) (i : Fin 64) : View.Piece (Elt F) S64x128 .f32 :=
  ⟨Rect.unit (s := S64x128) ![i.val, 0] S1x128.size (inb_bin i), stored Z ⟨i / 8, by omega⟩ ⟨i % 8, by omega⟩⟩

/-- All 64 stores, the last first. -/
def binPieces (Z : S2048x128.Idx → F .f32) : List (View.Piece (Elt F) S64x128 .f32) := (List.finRange 64).reverse.map (binPiece Z)

/-- The whole table. -/
def table (Z : S2048x128.Idx → F .f32) : FVec F S64x128 .f32 :=
  fun y => binRow Z ⟨(y 0).val / 8, by have : (y 0).val < 64 := (y 0).isLt; omega⟩ ⟨(y 0).val % 8, by omega⟩ (ix1 (y 1))

variable (c : Dev nD) (arg0 : Memref sig .tc .hbm S16x2048x128 .f32) (arg1 : Memref sig .tc .hbm S16x2048x128 .f32) (arg3 : Memref sig .tc .vmem S2x2048x128 .f32) (arg4 : Memref sig .tc .vmem S2x2048x128 .f32) (arg5 : Memref sig .tc .vmem S64x128 .f32) (arg6 : Memref sig .tc .vmem S64x128 .f32) (arg7 : Memref sig .tc .vmem S2048x128 .f32) (arg8 : Memref sig .tc .vmem S2048x128 .f32)

theorem target_pieces (k : Fin k0_t1_loop.trips) (b : Fin 16) (X1 : Buf (Elt F) (arg1.view.loc (c : Thread nD τ))) :
    trip.sl.H6_64 c arg1 arg3 arg7 k b X1
      = binPieces (arg7.view.read (Elt F) (arg7.view.writes (Elt F) arg7.view.junk (trip.sl.H7_1 c arg1 arg3 k b X1))) := rfl

theorem prediction_pieces (k : Fin k0_t1_loop.trips) (b : Fin 16) (X1 : Buf (Elt F) (arg1.view.loc (c : Thread nD τ)))
    (X0 : Buf (Elt F) (arg0.view.loc (c : Thread nD τ))) :
    trip.sl.H5_64 c arg0 arg1 arg4 arg8 k b X1 X0
      = binPieces (arg8.view.read (Elt F) (arg8.view.writes (Elt F) arg8.view.junk (trip.sl.H8_1 c arg0 arg1 arg4 k b X1 X0))) := rfl

theorem zero_offset : (![0, 0] : Fin 2 → ℕ) = fun _ => 0 := by funext a; fin_cases a <;> rfl

/-- An image stretched between the smallest and the largest target, as the kernel computes it. -/
def stretch (T w : S2048x128.Idx → F .f32) : S2048x128.Idx → F .f32 :=
  mulf (subf w (broadcast S2048x128 (tmin T))) (broadcast S2048x128 (k0_pay9 (tden T)))

/-- A slot read through the two-slot buffer is the block copied into it. -/
theorem slot_block (M : Memref sig .tc .vmem S2x2048x128 .f32) (n : Fin 2) {off : Fin 3 → ℕ} (inb) (h : off = ![n.val, 0, 0])
    (f) (w : S2048x128.Idx → Elt F .f32) :
    shapeCast S2048x128 (M.view.readAt (Elt F) (Rect.unit (s := S2x2048x128) off S1x2048x128.size inb).toLoadRect
      ((slot M n).view.writes (Elt F) f [⟨Rect.whole S2048x128, w⟩])) shapeCasts_S1x2048x128_S2048x128 = w := by
  subst h
  exact read_slot (slot M n) f w

theorem pay10_eq (a d : F .f32) (v : Vec F S1x2048x128 .f32) :
    k0_pay10 a d v = mulf (subf (shapeCast S2048x128 v shapeCasts_S1x2048x128_S2048x128) (broadcast S2048x128 a)) (broadcast S2048x128 (k0_pay9 d)) :=
  shapeCast_self _ _

theorem pay11_eq (a d : F .f32) (v : Vec F S1x2048x128 .f32) :
    k0_pay11 a d v = mulf (subf (shapeCast S2048x128 v shapeCasts_S1x2048x128_S2048x128) (broadcast S2048x128 a)) (broadcast S2048x128 (k0_pay9 d)) :=
  shapeCast_self _ _

theorem read_whole (M : Memref sig .tc .vmem S2048x128 .f32) (w : S2048x128.Idx → Elt F .f32) :
    M.view.read (Elt F) (M.view.writes (Elt F) M.view.junk [⟨Rect.unit ![0, 0] S2048x128.size inb_S2048x128_S2048x128_0_0, w⟩]) = w := by
  funext y
  rw [View.read_writes_junk_apply_eq_canon, View.canon_cons_unit_zero zero_offset]

theorem stretched_targets (k : Fin k0_t1_loop.trips) (b : Fin 16) (X1 : Buf (Elt F) (arg1.view.loc (c : Thread nD τ))) :
    arg7.view.read (Elt F) (arg7.view.writes (Elt F) arg7.view.junk (trip.sl.H7_1 c arg1 arg3 k b X1))
      = stretch (payB arg1 X1 b) (payB arg1 X1 b) := by
  have h : trip.sl.H7_1 c arg1 arg3 k b X1 = [⟨Rect.unit ![0, 0] S2048x128.size inb_S2048x128_S2048x128_0_0,
      k0_pay10 (tmin (payB arg1 X1 b)) (tden (payB arg1 X1 b)) (trip.sl.v48 c arg1 arg3 k b X1)⟩] := rfl
  have hw : k0_pay10 (tmin (payB arg1 X1 b)) (tden (payB arg1 X1 b)) (trip.sl.v48 c arg1 arg3 k b X1)
      = stretch (payB arg1 X1 b) (payB arg1 X1 b) := by
    rw [pay10_eq]
    unfold stretch trip.sl.v48
    rw [slot_block _ _ _ (off8_eq k)]
  rw [h, hw]
  exact read_whole arg7 _

theorem stretched_predictions (k : Fin k0_t1_loop.trips) (b : Fin 16) (X1 : Buf (Elt F) (arg1.view.loc (c : Thread nD τ)))
    (X0 : Buf (Elt F) (arg0.view.loc (c : Thread nD τ))) :
    arg8.view.read (Elt F) (arg8.view.writes (Elt F) arg8.view.junk (trip.sl.H8_1 c arg0 arg1 arg4 k b X1 X0))
      = stretch (payB arg1 X1 b) (payB arg0 X0 b) := by
  have h : trip.sl.H8_1 c arg0 arg1 arg4 k b X1 X0 = [⟨Rect.unit ![0, 0] S2048x128.size inb_S2048x128_S2048x128_0_0,
      k0_pay11 (tmin (payB arg1 X1 b)) (tden (payB arg1 X1 b)) (trip.sl.v58 c arg0 arg4 k b X0)⟩] := rfl
  have hw : k0_pay11 (tmin (payB arg1 X1 b)) (tden (payB arg1 X1 b)) (trip.sl.v58 c arg0 arg4 k b X0)
      = stretch (payB arg1 X1 b) (payB arg0 X0 b) := by
    rw [pay11_eq]
    unfold stretch trip.sl.v58
    rw [slot_block _ _ _ (off8_eq k)]
  rw [h, hw]
  exact read_whole arg8 _

theorem stored_apply (Z : S2048x128.Idx → F .f32) (g j : Fin 8) (x : S1x128.Idx) : stored Z g j x = binRow Z g j (ix1 (x 1)) := by
  unfold stored binRow
  generalize (foldN (grpStep (Scalar.ofBits .f32 (shiftWord g)) hiC nlC l2C) Z zeros 32).at j = A
  rw [shapeCast_self]
  pointwise

theorem stored_row (Z : S2048x128.Idx → F .f32) (i : Fin 64) (x : S1x128.Idx) :
    stored Z ⟨i / 8, by omega⟩ ⟨i % 8, by omega⟩ x
      = table Z ((Rect.unit (s := S64x128) ![i.val, 0] S1x128.size (inb_bin i)).emb x) := by
  rw [stored_apply]
  have h0 : (x 0).val = 0 := by have : (x 0).val < 1 := (x 0).isLt; omega
  have e : (Rect.unit (s := S64x128) ![i.val, 0] S1x128.size (inb_bin i)).emb x = ix2 i (x 1) := by
    funext a
    apply Fin.ext
    fin_cases a
    · show i.val + 1 * (x 0).val = i.val; omega
    · show 0 + 1 * (x 1).val = (x 1).val; omega
  rw [e]
  rfl

/-- The table read back whole after the 64 stores. -/
theorem read_table (M : Memref sig .tc .vmem S64x128 .f32) (Z : S2048x128.Idx → F .f32) (inb) :
    M.view.readCov (binPieces Z) (Rect.unit (s := S64x128) ![0, 0] S64x128.size inb).toLoadRect = table Z := by
  have hcover (y : S64x128.Idx) : ∃ p ∈ binPieces Z, y ∈ p.1.set := by
    have hy : (y 0).val < 64 := (y 0).isLt
    refine ⟨binPiece Z ⟨y 0, hy⟩, List.mem_map_of_mem (List.mem_reverse.mpr (List.mem_finRange _)), ?_⟩
    show y ∈ (Rect.unit (s := S64x128) ![(y 0).val, 0] S1x128.size (inb_bin ⟨y 0, hy⟩)).set
    rw [Rect.mem_set_unit]
    intro a; fin_cases a
    · exact ⟨le_rfl, Nat.lt_succ_self _⟩
    · exact ⟨Nat.zero_le _, by have : (y 1).val < 128 := (y 1).isLt; show (y 1).val < 0 + 128; omega⟩
  have hG : ∀ p ∈ binPieces Z, ∀ x : p.1.shape.Idx, p.2 x = table Z (p.1.emb x) := by
    intro p hp
    obtain ⟨i, -, rfl⟩ := List.mem_map.mp hp
    exact fun x => stored_row Z i x
  rw [View.readCov_eq_canon_ld _ _ _ hcover, View.ld_unit_zero zero_offset]
  funext y
  exact View.canon_apply_of_pieces (table Z) (binPieces Z) hG y (hcover y)

variable (harg0 : arg0.IsWhole) (harg1 : arg1.IsWhole) (arg2 : Memref sig .tc .vmem S16x8x128 .f32) (harg2 : arg2.IsWhole) (harg3 : arg3.IsWhole) (harg4 : arg4.IsWhole) (harg5 : arg5.IsWhole) (harg6 : arg6.IsWhole) (harg7 : arg7.IsWhole) (harg8 : arg8.IsWhole) (arg9 : DmaSems sig S2) (arg10 : DmaSems sig S2)

/-- What a trip stores: the divergence of the two tables. -/
theorem trip_value (k : Fin k0_t1_loop.trips) (b : Fin 16) (X1 : Buf (Elt F) (arg1.view.loc (c : Thread nD τ)))
    (X0 : Buf (Elt F) (arg0.view.loc (c : Thread nD τ))) :
    (trip c arg0 harg0 arg1 harg1 arg2 harg2 arg3 harg3 arg4 harg4 arg5 harg5 arg6 harg6 arg7 harg7 arg8 harg8 arg9 arg10 k b X1 X0).1
      = k0_pay1 (k0_pay502 (table (stretch (payB arg1 X1 b) (payB arg0 X0 b))))
          (k0_pay503 (table (stretch (payB arg1 X1 b) (payB arg1 X1 b))))
          (k0_pay504 (table (stretch (payB arg1 X1 b) (payB arg0 X0 b)))) := by
  have hT : trip.sl.v1067 c arg1 arg3 arg6 arg7 k b X1 = table (stretch (payB arg1 X1 b) (payB arg1 X1 b)) := by
    unfold trip.sl.v1067
    rw [target_pieces, stretched_targets, read_table]
  have hP : trip.sl.v1070 c arg0 arg1 arg4 arg5 arg8 k b X1 X0 = table (stretch (payB arg1 X1 b) (payB arg0 X0 b)) := by
    unfold trip.sl.v1070
    rw [prediction_pieces, stretched_predictions, read_table]
  rw [← hT, ← hP]
  unfold trip
  show k0_pay1 (trip.sl.r_129 c arg0 arg1 arg4 arg5 arg8 k b X1 X0) (trip.sl.r_130 c arg1 arg3 arg6 arg7 k b X1)
    (trip.sl.r_131 c arg0 arg1 arg4 arg5 arg8 k b X1 X0) = _
  unfold trip.sl.r_129 trip.sl.r_130 trip.sl.r_131
  rfl

/-! ## In extended reals -/

theorem stretch_apply (T w : Image) (i : S2048x128.Idx) : stretch (F := Ideal) T w i = stretched T (w i) := by
  have h (x d : EReal) : mulf (F := Ideal) (φ := .f32) (subf w (broadcast S2048x128 x)) (broadcast S2048x128 d) i = (w i - x) * d := rfl
  have hd (d : EReal) : k0_pay9 (F := Ideal) d = Ideal.div (Ideal.ofBits .f32 0x42800000#32) (d + eps) := by
    unfold k0_pay9
    simp only [Scalar.divf, Scalar.addf, Scalar.ofBits]
    rfl
  unfold stretch
  rw [h, hd, tmin_eq, tden_eq, word_64]
  rfl

/-- A row of a table sums to the histogram's bin. -/
theorem table_total (T w : Image) (i : Fin 64) : ∑ l : Fin 128, table (F := Ideal) (stretch (F := Ideal) T w) (ix2 i l) = hist T w i := by
  have h : stretch (F := Ideal) T w = fun i => stretched T (w i) := funext fun i => stretch_apply T w i
  rw [h]
  refine (bin_total T w ⟨i / 8, by omega⟩ ⟨i % 8, by omega⟩).trans ?_
  congr 1
  exact Fin.ext (Nat.div_add_mod _ _)

theorem pay1_apply (P T : FVec Ideal S64x128 .f32) (i : S1x8x128.Idx) :
    k0_pay1 (F := Ideal) (k0_pay502 P) (k0_pay503 T) (k0_pay504 P) i
      = divergence (fun j => ∑ l : Fin 128, T (ix2 j l)) (fun j => ∑ l : Fin 128, P (ix2 j l)) := by
  pointwise [k0_pay1, k0_pay502, k0_pay503, k0_pay504, divergence, share]
  simp only [Finset.univ_unique, Finset.sum_const, Finset.card_singleton, one_smul]

/-- In extended reals a trip stores its image's divergence, in every place of the row. -/
theorem trip_divergence (k : Fin k0_t1_loop.trips) (b : Fin 16) (X1 : Buf (Elt Ideal) (arg1.view.loc (c : Thread nD τ)))
    (X0 : Buf (Elt Ideal) (arg0.view.loc (c : Thread nD τ))) (i : S1x8x128.Idx) :
    (trip (F := Ideal) c arg0 harg0 arg1 harg1 arg2 harg2 arg3 harg3 arg4 harg4 arg5 harg5 arg6 harg6 arg7 harg7 arg8 harg8 arg9 arg10 k b X1 X0).1 i
      = divergence (hist (payB arg1 X1 b : Image) (payB arg1 X1 b : Image)) (hist (payB arg1 X1 b : Image) (payB arg0 X0 b : Image)) := by
  rw [trip_value, pay1_apply]
  congr 1 <;> exact funext fun j => table_total _ _ j

end Cert.Proof.KernelIdeal

end
-- ==== Proof.KernelIdealValue.lean ====
/-
  What the program returns, in extended reals: the loss of its two arguments' images.
-/
module

public import proofs.«01_k».proof.Proof.KernelIdealFrame
public import proofs.«01_k».proof.Proof.KernelIdealTable

@[expose] public section

set_option maxRecDepth 8192

noncomputable section

namespace Cert.Proof.KernelIdeal

open Cert.KernelIdeal Cert.KernelIdeal.Gen Cert.Divergence
open Idealize.ShloMosaic Idealize.ShloMosaic.TcCoe Idealize.SL.Sem

variable (m : (ℓ : Loc nD τ sig) → Buf (Elt Ideal) ℓ)

/-! ## The stored rows -/

/-- Image `b` of an array of sixteen. -/
def image (X : S16x2048x128.Idx → EReal) (b : Fin 16) : Image := fun i => X (ix3 b (i 0) (i 1))

/-- A plane of one reshaped is the plane. -/
theorem plane_apply {α : Type} (Y : S1x2048x128.Idx → α) (h : S1x2048x128.ShapeCasts S2048x128) (r : Fin 2048) (l : Fin 128) :
    shapeCast S2048x128 Y h (ix2 r l) = Y (ix3 0 r l) := by
  pointwise

/-- What the copy of block `b` of the targets carries is image `b`. -/
theorem payT_eq (c : Dev nD) (X : Buf (Elt Ideal) (srcT.view.loc (c : Thread nD τ))) (b : Fin 16) :
    (payB srcT X b : Image) = image X b := by
  funext i
  obtain ⟨r, l, rfl⟩ : ∃ r l, i = ix2 r l := ⟨i 0, i 1, eq_ix2 i⟩
  refine (plane_apply (srcT.view.readAt (Elt Ideal) (Rect.unit (s := S16x2048x128) ![b.val, 0, 0] S1x2048x128.size (inb_blk b)).toLoadRect X) shapeCasts_S1x2048x128_S2048x128 r l).trans ?_
  show X _ = X _
  congr 1
  funext a
  fin_cases a <;> refine Fin.ext ?_
  · show b.val + 1 * 0 = b.val; omega
  · show 0 + 1 * r.val = r.val; omega
  · show 0 + 1 * l.val = l.val; omega

/-- … and of the predictions. -/
theorem payP_eq (c : Dev nD) (X : Buf (Elt Ideal) (srcP.view.loc (c : Thread nD τ))) (b : Fin 16) :
    (payB srcP X b : Image) = image X b := payT_eq c X b

/-- The divergence of the two images `b`. -/
def entry (c : Dev nD) (b : Fin 16) : EReal :=
  divergence (hist (image (V m c main_v1) b) (image (V m c main_v1) b)) (hist (image (V m c main_v1) b) (image (V m c main_v0) b))

/-- Every stored row holds its image's divergence. -/
theorem row_entry (c : Dev nD) (t : Fin cfg0.N) (n : ℕ) :
    ∀ p ∈ rows (F := Ideal) c srcP (Memref.isWhole_whole _) srcT (Memref.isWhole_whole _) (ms t) (hstage0_0 0) ringT (Memref.isWhole_whole _) ringP (Memref.isWhole_whole _)
      histP (Memref.isWhole_whole _) histT (Memref.isWhole_whole _) normT (Memref.isWhole_whole _) normP (Memref.isWhole_whole _)
      cc0_scratch6 cc0_scratch7 (V m c main_v1) (V m c main_v0) n,
      ∀ x : p.1.shape.Idx, p.2 x = entry m c (p.1.emb x 0) := by
  induction n with
  | zero => intro p hp; exact absurd hp List.not_mem_nil
  | succ n ih =>
    unfold rows
    split
    · rename_i h
      intro p hp
      rcases List.mem_cons.1 hp with rfl | hp
      · intro x
        have e : (Rect.unit (s := S16x8x128) (k0_off25 ⟨n, h⟩) S1x8x128.size (k0_off25_inb ⟨n, h⟩)).emb x 0 = ⟨n, h⟩ := by
          refine Fin.ext ?_
          have h0 : (x 0).val < 1 := (x 0).isLt
          have h1 : k0_off25 ⟨n, h⟩ 0 = n := congrFun (off25_eq ⟨n, h⟩) 0
          show k0_off25 ⟨n, h⟩ 0 + 1 * (x 0).val = n
          omega
        refine (trip_divergence c srcP srcT ringT ringP histP histT normT normP (Memref.isWhole_whole _) (Memref.isWhole_whole _)
          (ms t) (hstage0_0 0) (Memref.isWhole_whole _) (Memref.isWhole_whole _) (Memref.isWhole_whole _) (Memref.isWhole_whole _)
          (Memref.isWhole_whole _) (Memref.isWhole_whole _) cc0_scratch6 cc0_scratch7 ⟨n, h⟩ ⟨n, h⟩ (V m c main_v1) (V m c main_v0) x).trans ?_
        rw [payT_eq, payP_eq]
        exact congrArg (entry m c) e.symm
      · exact ih p hp
    · exact ih

/-- The array of the sixteen divergences. -/
def result (c : Dev nD) : Vec Ideal S16x8x128 .f32 := fun y => entry m c (y 0)

/-- So the staging buffer of the result holds the sixteen divergences. -/
theorem outAt_eq (c : Dev nD) (t : Fin cfg0.N) : outAt m c t = result m c := funext fun y =>
  View.read_writes_apply_of_pieces _ _ (result m c) (rowsAt m c t) (row_entry m c t 16) y (rows_cover m c t y)

/-- The result's one block begins at the array's first place and is as large as the array. -/
theorem block_whole (a : Fin 3) : win0_0.index t0_0 a * win0_0.size a = 0
    ∧ win0_0.xsize (grid0.coords t0_0) a = main_v2.ty.shape.size a := by
  revert a; decide

/-- The region leaves the sixteen divergences in its result array. -/
theorem array_eq (c : Dev nD) : (dats m 0 c).arrAt 0 cfg0.N = result m c := by
  refine (dats m 0 c).arrAt_eq_of_cover 0 (result m c) (fun t _ => ?_) fun i => ⟨t0_0, by decide, ?_⟩
  · have e : (dats m 0 c).flushed 0 t = (cfg0.win 0).cut (grid0.coords t) (result m c) :=
      congrArg ((cfg0.win 0).cut (grid0.coords t)) ((after_eq m c t).trans (outAt_eq m c t))
    rw [e, fin_N0 t]
    exact (Memref.read_access_unit_zero (Elt Ideal) main_v2 (funext fun a => (block_whole a).1)
      (fun a => by rw [(block_whole a).1, Nat.zero_add]) (result m c)).symm
  · show i ∈ ((View.whole main_v2).slice (win0_0.rect t0_0)).set
    rw [View.set_slice_whole, Rect.mem_set_unit]
    intro a
    have h : (i a : Nat) < main_v2.ty.shape.size a := (i a).isLt
    obtain ⟨h0, hs⟩ := block_whole a
    show win0_0.index t0_0 a * win0_0.size a ≤ (i a : Nat) ∧ (i a : Nat) < win0_0.index t0_0 a * win0_0.size a + win0_0.xsize (grid0.coords t0_0) a
    rw [h0, hs]
    exact ⟨Nat.zero_le _, by rw [Nat.zero_add]; exact h⟩

/-! ## The closing lines -/

/-- Their result: a tenth of the divergences' mean. -/
def closing (A : FVec Ideal S16x8x128 .f32) : FVec Ideal S_ .f32 :=
  mulf (constant S_ .f32 0x3DCCCCCD#32) (Host.divf
    (Host.reduceAdd (shapeCast S16 (extractStridedSlice S16x1x1 ![0, 0, 0] A slices_S16x8x128_S16x1x1_0_0_0) shapeCasts_S16x1x1_S16)
      (constant S_ .f32 0x00000000#32) reducesTo_S16_S_d0 h_S_) (constant S_ .f32 0x41800000#32))

/-- What the closing lines compute from the region's result. -/
theorem after_v7 (c : Dev nD) :
    Pipeline.afterTail₀ cfgs (dats m) 0 (V0 m) [hostOps1] c main_v7 = closing (result m c) := by
  unfold Pipeline.afterTail₀
  have e : Pipeline.withArrays spec0 c (V0 m c) (fun w => (dats m 0 c).arrAt w cfg0.N) (Proc.devRef .tc main_v2) = result m c :=
    (Pipeline.withArrays_arr spec0 (by decide) c _ _ 0).trans (array_eq m c)
  revert e
  generalize Pipeline.withArrays spec0 c (V0 m c) (fun w => (dats m 0 c).arrAt w cfg0.N) = W
  intro e
  show StableHlo.after hostOps1 W (Proc.devRef .tc main_v7) = _
  rw [← e]
  simp only [hostOps1]
  after_results_simp <;> rfl

/-- It is the loss of the two arrays' images. -/
theorem closing_apply (c : Dev nD) (j : S_.Idx) :
    closing (result m c) j = loss (fun b => image (V m c main_v1) b) (fun b => image (V m c main_v0) b) := by
  pointwise [closing, result]
  rfl

/-! ## In the reference's terms -/

/-- The places of an image read row by row. -/
def places : Fin 262144 ≃ S2048x128.Idx where
  toFun n := ix2 ⟨n / 128, by omega⟩ ⟨n % 128, by omega⟩
  invFun i := ⟨128 * (i 0).val + (i 1).val, by have h0 : (i 0).val < 2048 := (i 0).isLt; have h1 : (i 1).val < 128 := (i 1).isLt; omega⟩
  left_inv n := Fin.ext (Nat.div_add_mod _ _)
  right_inv i := by
    have h0 : (i 0).val < 2048 := (i 0).isLt
    have h1 : (i 1).val < 128 := (i 1).isLt
    funext a
    fin_cases a
    · exact Fin.ext (show (128 * (i 0).val + (i 1).val) / 128 = (i 0).val by omega)
    · exact Fin.ext (show (128 * (i 0).val + (i 1).val) % 128 = (i 1).val by omega)

/-- An array of sixteen images, each written out row by row, at place `n` of image `b`. -/
theorem flat_eq {α : Type} (K : S16x2048x128.Idx → α) (h : S16x2048x128.ShapeCasts (⟨2, ![16, 262144]⟩ : Shape)) (b : Fin 16) (n : Fin 262144) :
    shapeCast (⟨2, ![16, 262144]⟩ : Shape) K h (ix2 b n) = K (ix3 b ⟨n / 128, by omega⟩ ⟨n % 128, by omega⟩) := by
  pointwise

/-- The predictions that the region finds. -/
theorem V_v0 (c : Dev nD) : V m c main_v0 = shapeCast S16x2048x128 (m ((c.tc : Thread nD τ).loc main_arg0)) shapeCasts_S16x1x512x512_S16x2048x128 := by
  unfold V V0
  simp only [hostOps0, List.flatten_cons, List.flatten_nil, List.append_nil]
  after_results_simp <;> rfl

/-- The targets that the region finds. -/
theorem V_v1 (c : Dev nD) : V m c main_v1 = shapeCast S16x2048x128 (m ((c.tc : Thread nD τ).loc main_arg1)) shapeCasts_S16x1x512x512_S16x2048x128 := by
  unfold V V0
  simp only [hostOps0, List.flatten_cons, List.flatten_nil, List.append_nil]
  after_results_simp <;> rfl

/-- The program returns the loss of its arguments' images, each read row by row. -/
theorem ends_loss {r : PUnit × MemSt nD τ sig (Elt Ideal)} (h : Ends m r) (c : Dev nD)
    (hf : S16x1x512x512.ShapeCasts (⟨2, ![16, 262144]⟩ : Shape)) :
    r.2.mem ((c.tc : Thread nD τ).loc main_v7) = fun _ => loss
      (fun b (n : Fin 262144) => shapeCast (⟨2, ![16, 262144]⟩ : Shape) (α := EReal) (m ((c.tc : Thread nD τ).loc main_arg1)) hf (ix2 b n))
      (fun b (n : Fin 262144) => shapeCast (⟨2, ![16, 262144]⟩ : Shape) (α := EReal) (m ((c.tc : Thread nD τ).loc main_arg0)) hf (ix2 b n)) := by
  have hk : S16x2048x128.ShapeCasts (⟨2, ![16, 262144]⟩ : Shape) := by decide
  have hv (x : S16x1x512x512.Idx → EReal) (b : Fin 16) (n : Fin 262144) :
      shapeCast (⟨2, ![16, 262144]⟩ : Shape) x hf (ix2 b n)
        = image (shapeCast S16x2048x128 x shapeCasts_S16x1x512x512_S16x2048x128) b (places n) := by
    rw [← shapeCast_comp x shapeCasts_S16x1x512x512_S16x2048x128 hk, flat_eq]
    rfl
  refine ((h.1 c).2 main_v7 (Pipeline.mem_restRefs_of main_v7 (by decide) (by decide))).trans ((after_v7 m c).trans ?_)
  funext j
  rw [closing_apply, V_v0, V_v1]
  simp only [hv]
  exact (loss_comp places _ _).symm

end Cert.Proof.KernelIdeal

end
-- ==== Proof.ReferenceValue.lean ====
/-
  What the reference returns, entry by entry, in extended reals.
-/
module

public import proofs.«01_k».proof.Proof.Gen.ReferenceIdeal.Run
public import proofs.«01_k».proof.Proof.Divergence

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Divergence

/-- The 65 edges of the bins. -/
def edges : FVec Ideal S65 .f32 :=
  have i : FVec Ideal S64 .f32 := Host.divf (sitofp .f32 (iotaInDim S64 32 0)) (broadcastInDim S64 ![] bcast_S_S64 (constant S_ .f32 0x42800000#32))
  concatenate S65 0 [⟨S64, (addf
      (mulf (broadcastInDim S64 ![0] bcast_S1_S64_0 (shapeCast _ (id (constant S_ .f32 0x00000000#32)) shapeCasts_S_S1))
        (subf (broadcastInDim S64 ![] bcast_S_S64 (constant S_ .f32 0x3F800000#32)) i))
      (mulf (broadcastInDim S64 ![0] bcast_S1_S64_0 (shapeCast _ (id (constant S_ .f32 0x3F800000#32)) shapeCasts_S_S1)) i))⟩,
    ⟨S1, (broadcastInDim S1 ![] bcast_S_S1 (id (constant S_ .f32 0x3F800000#32)))⟩] concatenates_S64_S1_S65_d0

/-- The middles of the bins. -/
def middles : FVec Ideal S64 .f32 :=
  Host.divf (addf (extractStridedSlice S64 ![0] edges slices_S65_S64_0) (extractStridedSlice S64 ![1] edges slices_S65_S64_1))
    (broadcastInDim S64 ![] bcast_S_S64 (constant S_ .f32 0x40000000#32))

/-- The width of the first bin. -/
def width : FVec Ideal S_ .f32 :=
  subf (shapeCast _ (extractStridedSlice S1 ![1] edges slices_S65_S1_1) shapeCasts_S1_S_)
    (shapeCast _ (extractStridedSlice S1 ![0] edges slices_S65_S1_0) shapeCasts_S1_S_)

/-- Each image's smallest target, as a column. -/
def smallest (t : FVec Ideal S16x262144 .f32) : FVec Ideal S16x1 .f32 :=
  broadcastInDim S16x1 ![0] bcast_S16_S16x1_0 (Host.reduce FloatOps.minimumf t (constant S_ .f32 0x7F800000#32) reducesTo_S16x262144_S16_d1 h_S_)

/-- Each image's largest target, as a column. -/
def largest (t : FVec Ideal S16x262144 .f32) : FVec Ideal S16x1 .f32 :=
  broadcastInDim S16x1 ![0] bcast_S16_S16x1_0 (Host.reduce FloatOps.maximumf t (constant S_ .f32 0xFF800000#32) reducesTo_S16x262144_S16_d1 h_S_)

/-- The entries `p` placed between the smallest and the largest target. -/
def placed (t p : FVec Ideal S16x262144 .f32) : FVec Ideal S16x262144 .f32 :=
  Host.divf (subf p (broadcastInDim S16x262144 ![0, 1] bcast_S16x1_S16x262144_0_1 (smallest t)))
    (broadcastInDim S16x262144 ![0, 1] bcast_S16x1_S16x262144_0_1
      (addf (subf (largest t) (smallest t)) (broadcastInDim S16x1 ![] bcast_S_S16x1 (constant S_ .f32 0x322BCC77#32))))

/-- Each place's distance from each middle. -/
def apart (x : FVec Ideal S16x262144 .f32) : FVec Ideal S16x262144x64 .f32 :=
  subf (broadcastInDim S16x262144x64 ![0, 1, 2] bcast_S16x262144x1_S16x262144x64_0_1_2
      (broadcastInDim S16x262144x1 ![0, 1] bcast_S16x262144_S16x262144x1_0_1 x))
    (broadcastInDim S16x262144x64 ![0, 1, 2] bcast_S1x1x64_S16x262144x64_0_1_2
      (broadcastInDim S1x1x64 ![2] bcast_S64_S1x1x64_2 middles))

/-- The histograms of the sixteen images. -/
def histograms (x : FVec Ideal S16x262144 .f32) : FVec Ideal S16x64 .f32 :=
  Host.reduceAdd (Host.exp (Host.divf (Host.negf (mulf (apart x) (apart x)))
      (broadcastInDim S16x262144x64 ![] bcast_S_S16x262144x64 (mulf (constant S_ .f32 0x40000000#32) (mulf width width)))))
    (constant S_ .f32 0x00000000#32) reducesTo_S16x262144x64_S16x64_d1 h_S_

/-- The histograms' shares. -/
def shares (h : FVec Ideal S16x64 .f32) : FVec Ideal S16x64 .f32 :=
  Host.divf h (broadcastInDim S16x64 ![0, 1] bcast_S16x1_S16x64_0_1
    (addf (broadcastInDim S16x1 ![0] bcast_S16_S16x1_0
        (Host.reduceAdd h (constant S_ .f32 0x00000000#32) reducesTo_S16x64_S16_d1 h_S_))
      (broadcastInDim S16x1 ![] bcast_S_S16x1 (constant S_ .f32 0x322BCC77#32))))

/-- The logarithm of a share, kept away from zero. -/
def logShares (s : FVec Ideal S16x64 .f32) : FVec Ideal S16x64 .f32 :=
  Host.log (addf s (broadcastInDim S16x64 ![] bcast_S_S16x64 (constant S_ .f32 0x322BCC77#32)))

/-- The loss from the two sets of shares. -/
def lossOf (a b : FVec Ideal S16x64 .f32) : FVec Ideal S_ .f32 :=
  mulf (constant S_ .f32 0x3DCCCCCD#32) (Host.divf
    (Host.reduceAdd (Host.reduceAdd (mulf a (subf (logShares a) (logShares b)))
      (constant S_ .f32 0x00000000#32) reducesTo_S16x64_S16_d1 h_S_) (constant S_ .f32 0x00000000#32) reducesTo_S16_S_d0 h_S_)
    (constant S_ .f32 0x41800000#32))

/-- The result as the composition of these steps. -/
theorem result_eq (m : (ℓ : Loc nD τ sig) → Buf (Elt Ideal) ℓ) (c : Dev nD) :
    res_main_v77 m c
      = lossOf
          (shares (histograms (placed (shapeCast S16x262144 (m ((c.tc : Thread nD τ).loc main_arg1)) shapeCasts_S16x1x512x512_S16x262144)
            (shapeCast S16x262144 (m ((c.tc : Thread nD τ).loc main_arg1)) shapeCasts_S16x1x512x512_S16x262144))))
          (shares (histograms (placed (shapeCast S16x262144 (m ((c.tc : Thread nD τ).loc main_arg1)) shapeCasts_S16x1x512x512_S16x262144)
            (shapeCast S16x262144 (m ((c.tc : Thread nD τ).loc main_arg0)) shapeCasts_S16x1x512x512_S16x262144)))) := rfl

theorem edges_apply (i : Fin 65) : edges (ix1 i) = (((i : ℝ) / 64 : ℝ) : EReal) := by
  have hw : (BitVec.ofNat 32 (i : ℕ)).toInt = (i : ℕ) := by
    have := i.isLt
    rw [BitVec.toInt_ofNat']
    simp only [Int.bmod]; norm_num; omega
  have hs : FloatOps.sitofp (F := Ideal) .f32 (BitVec.ofNat 32 (i : ℕ)) = ((i : ℝ) : EReal) := by
    show ((((BitVec.ofNat 32 (i : ℕ)).toInt : ℤ) : ℝ) : EReal) = _
    rw [hw]; simp
  have h0 : id (constant (F := Ideal) S_ FTy.f32 0#32) ix0 = 0 := Ideal.ofBits_zero_f32
  have h1 : id (constant (F := Ideal) S_ FTy.f32 1065353216#32) ix0 = 1 := Ideal.ofBits_one_f32
  pointwise [edges]
  rw [h0, h1, hs, word_64, zero_mul, zero_add, one_mul, Ideal.div_coe (by norm_num)]
  split
  · rw [← EReal.coe_mul]; congr 1; ring
  · have : (i : ℕ) = 64 := by have := i.isLt; omega
    rw [this]; norm_num

theorem middles_apply (j : Fin 64) : middles (ix1 j) = (middle j : EReal) := by
  have hl (k : ℕ) (h : k < 65) : edges (ix1 ⟨k, h⟩) = (((k : ℝ) / 64 : ℝ) : EReal) := edges_apply ⟨k, h⟩
  pointwise [middles]
  simp only [hl, edges_apply]
  rw [word_2, Ideal.div_coe (by norm_num), ← EReal.coe_add, ← EReal.coe_mul]
  congr 1
  unfold middle
  push_cast
  ring

theorem width_apply : width ix0 = ((1 / 64 : ℝ) : EReal) := by
  pointwise [width]
  rw [edges_apply, edges_apply, ← EReal.coe_sub]
  norm_num

theorem smallest_apply (t : FVec Ideal S16x262144 .f32) (b : Fin 16) : smallest t (ix2 b 0) = lo fun n => t (ix2 b n) := by
  pointwise [smallest]
  exact fold_min _

theorem largest_apply (t : FVec Ideal S16x262144 .f32) (b : Fin 16) : largest t (ix2 b 0) = hi fun n => t (ix2 b n) := by
  pointwise [largest]
  exact fold_max _

/-- A column spread over an image's entries. -/
theorem column_apply (v : FVec Ideal S16x1 .f32) (b : Fin 16) (n : Fin 262144) :
    broadcastInDim S16x262144 ![0, 1] bcast_S16x1_S16x262144_0_1 v (ix2 b n) = v (ix2 b 0) := by
  pointwise

theorem quotient_apply {s : Shape} (p l d : FVec Ideal s .f32) (i : s.Idx) :
    Host.divf (subf p l) d i = Ideal.div (p i - l i) (d i) := rfl

theorem spread_apply {s : Shape} (h l e : FVec Ideal s .f32) (i : s.Idx) : addf (subf h l) e i = h i - l i + e i := rfl

theorem placed_apply (t p : FVec Ideal S16x262144 .f32) (b : Fin 16) (n : Fin 262144) :
    placed t p (ix2 b n) = place (fun n => t (ix2 b n)) (p (ix2 b n)) := by
  unfold placed
  rw [quotient_apply, column_apply, column_apply, spread_apply, smallest_apply, largest_apply]
  rfl

theorem histograms_sum (x : FVec Ideal S16x262144 .f32) (b : Fin 16) (j : Fin 64) :
    histograms x (ix2 b j)
      = ∑ n, Ideal.exp (Ideal.div (-((x (ix2 b n) - middles (ix1 j)) * (x (ix2 b n) - middles (ix1 j))))
          (Ideal.ofBits .f32 0x40000000#32 * (width ix0 * width ix0))) := by
  pointwise [histograms, apart]

theorem histograms_apply (x : FVec Ideal S16x262144 .f32) (b : Fin 16) (j : Fin 64) :
    histograms x (ix2 b j) = ∑ n, gauss j (x (ix2 b n)) := by
  have hd : Ideal.ofBits .f32 0x40000000#32 * (width ix0 * width ix0) = ((1 / 2048 : ℝ) : EReal) := by
    rw [word_2, width_apply, ← EReal.coe_mul, ← EReal.coe_mul]
    norm_num
  rw [histograms_sum, hd, middles_apply]
  rfl

theorem shares_apply (h : FVec Ideal S16x64 .f32) (b : Fin 16) (j : Fin 64) : shares h (ix2 b j) = share (fun j => h (ix2 b j)) j := by
  pointwise [shares, share]

theorem lossOf_apply (a b : FVec Ideal S16x64 .f32) (j : S_.Idx) :
    lossOf a b j = Ideal.ofBits .f32 0x3DCCCCCD#32
      * Ideal.div (∑ i : Fin 16, ∑ j : Fin 64, a (ix2 i j) * (Ideal.log (a (ix2 i j) + eps) - Ideal.log (b (ix2 i j) + eps)))
          (Ideal.ofBits .f32 0x41800000#32) := by
  pointwise [lossOf, logShares]

/-- The reference returns the loss of its two arguments' images. -/
theorem result_loss (m : (ℓ : Loc nD τ sig) → Buf (Elt Ideal) ℓ) (c : Dev nD) :
    res_main_v77 m c = fun _ => loss
      (fun b (n : Fin 262144) => shapeCast S16x262144 (α := EReal) (m ((c.tc : Thread nD τ).loc main_arg1)) shapeCasts_S16x1x512x512_S16x262144 (ix2 b n))
      (fun b (n : Fin 262144) => shapeCast S16x262144 (α := EReal) (m ((c.tc : Thread nD τ).loc main_arg0)) shapeCasts_S16x1x512x512_S16x262144 (ix2 b n)) := by
  have hh (t p : FVec Ideal S16x262144 .f32) (b : Fin 16) (j : Fin 64) :
      histograms (placed t p) (ix2 b j) = hist (fun n => t (ix2 b n)) (fun n => p (ix2 b n)) j := by
    rw [histograms_apply]
    simp only [placed_apply]
    rfl
  funext j
  rw [result_eq, lossOf_apply]
  simp only [shares_apply, hh]
  unfold loss divergence
  rfl

end Cert.ReferenceIdeal.Value

end
-- ==== Proof.lean ====
module

public import proofs.«01_k».proof.Defs
public import proofs.«01_k».proof.Proof.KernelFrame
public import proofs.«01_k».proof.Proof.KernelIdealFrame
public import proofs.«01_k».proof.Proof.KernelIdealValue
public import proofs.«01_k».proof.Proof.ReferenceValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The kernel ends, its arguments unchanged and its counters at zero. -/
theorem frame_kernel : Cert.quiescent_Kernel := fun m ρ _ =>
  (θ_run Cert.Kernel.defs _ _).mono (fun _ h => ⟨Kernel.ends_args m h, h.2⟩) (Kernel.run_main (F := Bits) m ρ)

/-- … and over the extended reals. -/
theorem frame_ideal : Cert.quiescent_KernelIdeal := fun m ρ _ =>
  (θ_run Cert.KernelIdeal.defs _ _).mono (fun _ h => ⟨KernelIdeal.ends_args m h, h.2⟩) (KernelIdeal.run_main (F := Ideal) m ρ)

/-- … and the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constants denote what the claim says they do. -/
theorem named : Cert.preserves_Kernel_KernelIdeal :=
  ⟨IdealRules.named_const.statement Cert.KernelIdeal.κ _ .f32 _ _ rfl,
    IdealRules.named_const.statement Cert.KernelIdeal.κ _ .f32 _ _ rfl,
    IdealRules.named_const.statement Cert.KernelIdeal.κ _ .f32 _ _ rfl⟩

/-- Both programs return the loss of their arguments' images. -/
theorem values : Cert.algebraic_KernelIdeal_ReferenceIdeal := fun m ρ m' ρ' _ hm =>
  ⟨fun c => Cert.ReferenceIdeal.Value.res_main_v77 (F := Ideal) m' c,
    (θ_run Cert.KernelIdeal.defs _ _).mono (fun r h c => ⟨by
        rw [KernelIdeal.ends_loss m h c Cert.ReferenceIdeal.Gen.shapeCasts_S16x1x512x512_S16x262144]
        show _ = Cert.ReferenceIdeal.Value.res_main_v77 m' c
        rw [Cert.ReferenceIdeal.Value.result_loss, (hm c).1, (hm c).2]
        rfl, KernelIdeal.ends_args m h c⟩) (KernelIdeal.run_main (F := Ideal) m ρ),
    Cert.ReferenceIdeal.Value.run (F := Ideal) m' ρ'⟩

/-- All that is claimed. -/
theorem claim : Cert.Claim := ⟨Cert.Kernel.Gen.facts, Cert.KernelIdeal.Gen.facts, Cert.ReferenceIdeal.Gen.facts,
  frame_kernel, frame_ideal, frame_reference, named, values⟩

end Cert.Proof

end
